-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_target_in_range [hPre_target_in_range : Cert.Pre_target_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_target_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_target_in_range [hPre_target_in_range : Cert.Pre_target_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_target_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_KernelIdeal_pre_target_in_range [hKernelIdeal : Cert.KernelIdeal.Facts] [hPre_target_in_range : Cert.Pre_target_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_target_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_target_in_range [hReferenceIdeal : Cert.ReferenceIdeal.Facts] [hPre_target_in_range : Cert.Pre_target_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_target_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  True

def algebraic_KernelIdeal_ReferenceIdeal_pre_target_in_range [hKernelIdeal : Cert.KernelIdeal.Facts] [hReferenceIdeal : Cert.ReferenceIdeal.Facts] [hPre_target_in_range : Cert.Pre_target_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_target_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_v110) = v1 c
          ∧ r.2.mem ((c.tc : Thread Cert.ReferenceIdeal.nD Cert.ReferenceIdeal.τ).loc Cert.ReferenceIdeal.main_v138) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_target_in_range : Cert.Pre_target_in_range.Facts),
    quiescent_Kernel (hKernel := hKernel)
    ∧ quiescent_KernelIdeal (hKernelIdeal := hKernelIdeal)
    ∧ quiescent_KernelIdeal_pre_target_in_range (hKernelIdeal := hKernelIdeal) (hPre_target_in_range := hPre_target_in_range)
    ∧ quiescent_ReferenceIdeal (hReferenceIdeal := hReferenceIdeal)
    ∧ quiescent_ReferenceIdeal_pre_target_in_range (hReferenceIdeal := hReferenceIdeal) (hPre_target_in_range := hPre_target_in_range)
    ∧ preserves_Kernel_KernelIdeal
    ∧ algebraic_KernelIdeal_ReferenceIdeal_pre_target_in_range (hKernelIdeal := hKernelIdeal) (hReferenceIdeal := hReferenceIdeal) (hPre_target_in_range := hPre_target_in_range)
-- ==== Pre_target_in_range.lean ====
abbrev S4x256x128 : Shape := ⟨3, ![4, 256, 128]⟩
abbrev S4x25x768 : Shape := ⟨3, ![4, 25, 768]⟩
abbrev S4 : Shape := ⟨1, ![4]⟩
abbrev S896x256 : Shape := ⟨2, ![896, 256]⟩
abbrev S256 : Shape := ⟨1, ![256]⟩
abbrev S256x1 : Shape := ⟨2, ![256, 1]⟩
abbrev S1 : Shape := ⟨1, ![1]⟩
abbrev S256x6 : Shape := ⟨2, ![256, 6]⟩
abbrev S6 : Shape := ⟨1, ![6]⟩
abbrev S_ : Shape := ⟨0, ![]⟩

class Facts : Prop where
  bcast_S_S4 : S_.BroadcastsInDim S4 (![] : Fin 0 → Fin S4.rank)

variable [Facts]

def fn {F : FTy → Type} [FloatOps F] (main_arg0 : FVec F S4x256x128 .f32) (main_arg1 : FVec F S4x25x768 .f32) (main_arg2 : IVec S4 32) (main_arg3 : FVec F S896x256 .f32) (main_arg4 : FVec F S256 .f32) (main_arg5 : FVec F S256x1 .f32) (main_arg6 : FVec F S1 .f32) (main_arg7 : FVec F S896x256 .f32) (main_arg8 : FVec F S256 .f32) (main_arg9 : FVec F S256x6 .f32) (main_arg10 : FVec F S6 .f32) (main_arg11 : FVec F S896x256 .f32) (main_arg12 : FVec F S256 .f32) (main_arg13 : FVec F S256x1 .f32) (main_arg14 : FVec F S1 .f32) (main_arg15 : FVec F S896x256 .f32) (main_arg16 : FVec F S256 .f32) (main_arg17 : FVec F S256x6 .f32) (main_arg18 : FVec F S6 .f32) : IVec S4 1 :=
  let main_c : IVec S_ 32 := constantI S_ 32 0#32
  let main_v0 : IVec S4 32 := broadcastInDim S4 ![] bcast_S_S4 main_c
  let main_v1 : IVec S4 1 := cmpi .sge main_arg2 main_v0
  let main_c_0 : IVec S_ 32 := constantI S_ 32 25#32
  let main_v2 : IVec S4 32 := broadcastInDim S4 ![] bcast_S_S4 main_c_0
  let main_v3 : IVec S4 1 := cmpi .slt main_arg2 main_v2
  let main_v4 : IVec S4 1 := andi main_v1 main_v3
  main_v4
-- ==== Kernel.lean ====
abbrev S4x256x128 : Shape := ⟨3, ![4, 256, 128]⟩
abbrev S4x25x768 : Shape := ⟨3, ![4, 25, 768]⟩
abbrev S4 : Shape := ⟨1, ![4]⟩
abbrev S896x256 : Shape := ⟨2, ![896, 256]⟩
abbrev S256 : Shape := ⟨1, ![256]⟩
abbrev S256x1 : Shape := ⟨2, ![256, 1]⟩
abbrev S1 : Shape := ⟨1, ![1]⟩
abbrev S256x6 : Shape := ⟨2, ![256, 6]⟩
abbrev S6 : Shape := ⟨1, ![6]⟩
abbrev S1x256 : Shape := ⟨2, ![1, 256]⟩
abbrev S1x1 : Shape := ⟨2, ![1, 1]⟩
abbrev S1x6 : Shape := ⟨2, ![1, 6]⟩
abbrev S4x256 : Shape := ⟨2, ![4, 256]⟩
abbrev S4x8x6 : Shape := ⟨3, ![4, 8, 6]⟩
abbrev S2 : Shape := ⟨1, ![2]⟩
abbrev S_ : Shape := ⟨0, ![]⟩
abbrev S100x768 : Shape := ⟨2, ![100, 768]⟩
abbrev S4x1 : Shape := ⟨2, ![4, 1]⟩
abbrev S4x100 : Shape := ⟨2, ![4, 100]⟩
abbrev S4x768 : Shape := ⟨2, ![4, 768]⟩
abbrev S1024x128 : Shape := ⟨2, ![1024, 128]⟩
abbrev S128x256 : Shape := ⟨2, ![128, 256]⟩
abbrev S1024x256 : Shape := ⟨2, ![1024, 256]⟩
abbrev S768x256 : Shape := ⟨2, ![768, 256]⟩
abbrev S256x256 : Shape := ⟨2, ![256, 256]⟩
abbrev S1024x1 : Shape := ⟨2, ![1024, 1]⟩
abbrev S256x4 : Shape := ⟨2, ![256, 4]⟩
abbrev S8x1 : Shape := ⟨2, ![8, 1]⟩
abbrev S8x256 : Shape := ⟨2, ![8, 256]⟩
abbrev S1x256x128 : Shape := ⟨3, ![1, 256, 128]⟩
abbrev S256x128 : Shape := ⟨2, ![256, 128]⟩
abbrev S8x128 : Shape := ⟨2, ![8, 128]⟩
abbrev S32x128 : Shape := ⟨2, ![32, 128]⟩
abbrev S32x256 : Shape := ⟨2, ![32, 256]⟩
abbrev S32x1 : Shape := ⟨2, ![32, 1]⟩
abbrev S32x6 : Shape := ⟨2, ![32, 6]⟩
abbrev S8x6 : Shape := ⟨2, ![8, 6]⟩
abbrev S1x8x6 : Shape := ⟨3, ![1, 8, 6]⟩
abbrev S1x8 : Shape := ⟨2, ![1, 8]⟩

abbrev nBuf : Space → Nat
  | .hbm => 28
  | .vmem => 17
  | .smem => 1
  | _ => 0

abbrev bufTy : (tb : Table) → Fin (tcTables nBuf tb) → BufTy
  | .hbm, ⟨0, _⟩ => ⟨S4x256x128, .f32⟩
  | .hbm, ⟨1, _⟩ => ⟨S4x25x768, .f32⟩
  | .hbm, ⟨2, _⟩ => ⟨S4, .i32⟩
  | .hbm, ⟨3, _⟩ => ⟨S896x256, .f32⟩
  | .hbm, ⟨4, _⟩ => ⟨S256, .f32⟩
  | .hbm, ⟨5, _⟩ => ⟨S256x1, .f32⟩
  | .hbm, ⟨6, _⟩ => ⟨S1, .f32⟩
  | .hbm, ⟨7, _⟩ => ⟨S896x256, .f32⟩
  | .hbm, ⟨8, _⟩ => ⟨S256, .f32⟩
  | .hbm, ⟨9, _⟩ => ⟨S256x6, .f32⟩
  | .hbm, ⟨10, _⟩ => ⟨S6, .f32⟩
  | .hbm, ⟨11, _⟩ => ⟨S896x256, .f32⟩
  | .hbm, ⟨12, _⟩ => ⟨S256, .f32⟩
  | .hbm, ⟨13, _⟩ => ⟨S256x1, .f32⟩
  | .hbm, ⟨14, _⟩ => ⟨S1, .f32⟩
  | .hbm, ⟨15, _⟩ => ⟨S896x256, .f32⟩
  | .hbm, ⟨16, _⟩ => ⟨S256, .f32⟩
  | .hbm, ⟨17, _⟩ => ⟨S256x6, .f32⟩
  | .hbm, ⟨18, _⟩ => ⟨S6, .f32⟩
  | .hbm, ⟨19, _⟩ => ⟨S1x256, .f32⟩
  | .hbm, ⟨20, _⟩ => ⟨S1x1, .f32⟩
  | .hbm, ⟨21, _⟩ => ⟨S1x256, .f32⟩
  | .hbm, ⟨22, _⟩ => ⟨S1x1, .f32⟩
  | .hbm, ⟨23, _⟩ => ⟨S1x256, .f32⟩
  | .hbm, ⟨24, _⟩ => ⟨S1x6, .f32⟩
  | .hbm, ⟨25, _⟩ => ⟨S4x256, .f32⟩
  | .hbm, ⟨26, _⟩ => ⟨S4x256, .f32⟩
  | .hbm, ⟨27, _⟩ => ⟨S4x8x6, .f32⟩
  | .local _ .vmem, ⟨0, _⟩ => ⟨S4x256x128, .f32⟩
  | .local _ .vmem, ⟨1, _⟩ => ⟨S4x25x768, .f32⟩
  | .local _ .vmem, ⟨2, _⟩ => ⟨S896x256, .f32⟩
  | .local _ .vmem, ⟨3, _⟩ => ⟨S1x256, .f32⟩
  | .local _ .vmem, ⟨4, _⟩ => ⟨S256x1, .f32⟩
  | .local _ .vmem, ⟨5, _⟩ => ⟨S1x1, .f32⟩
  | .local _ .vmem, ⟨6, _⟩ => ⟨S1x256, .f32⟩
  | .local _ .vmem, ⟨7, _⟩ => ⟨S256x1, .f32⟩
  | .local _ .vmem, ⟨8, _⟩ => ⟨S1x1, .f32⟩
  | .local _ .vmem, ⟨9, _⟩ => ⟨S1x256, .f32⟩
  | .local _ .vmem, ⟨10, _⟩ => ⟨S256x6, .f32⟩
  | .local _ .vmem, ⟨11, _⟩ => ⟨S1x6, .f32⟩
  | .local _ .vmem, ⟨12, _⟩ => ⟨S4x256, .f32⟩
  | .local _ .vmem, ⟨13, _⟩ => ⟨S4x256, .f32⟩
  | .local _ .vmem, ⟨14, _⟩ => ⟨S4x8x6, .f32⟩
  | .local _ .vmem, ⟨15, _⟩ => ⟨S896x256, .f32⟩
  | .local _ .vmem, ⟨16, _⟩ => ⟨S896x256, .f32⟩
  | .local _ .smem, ⟨0, _⟩ => ⟨S4, .i32⟩
  | _, _ => ⟨S4x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6_0 : Ref sig .tc := ⟨.hbm, 25, rfl⟩
abbrev main_v6_1 : Ref sig .tc := ⟨.hbm, 26, rfl⟩
abbrev main_v6_2 : Ref sig .tc := ⟨.hbm, 27, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg11_0 : Ref sig .tc := ⟨.vmem, 10, rfl⟩
abbrev cc0_stg12_0 : Ref sig .tc := ⟨.vmem, 11, rfl⟩
abbrev cc0_stg13_0 : Ref sig .tc := ⟨.vmem, 12, rfl⟩
abbrev cc0_stg14_0 : Ref sig .tc := ⟨.vmem, 13, rfl⟩
abbrev cc0_stg15_0 : Ref sig .tc := ⟨.vmem, 14, rfl⟩
abbrev cc0_scratch0 : Ref sig .tc := ⟨.vmem, 15, rfl⟩
abbrev cc0_scratch1 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := .none

abbrev stage0_0 : Fin 1 → Memref sig .tc .smem S4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x25x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S896x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S256x6 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x6 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S4x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S4x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S4x8x6 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== ReferenceIdeal.lean ====
abbrev S4x256x128 : Shape := ⟨3, ![4, 256, 128]⟩
abbrev S4x25x768 : Shape := ⟨3, ![4, 25, 768]⟩
abbrev S4 : Shape := ⟨1, ![4]⟩
abbrev S896x256 : Shape := ⟨2, ![896, 256]⟩
abbrev S256 : Shape := ⟨1, ![256]⟩
abbrev S256x1 : Shape := ⟨2, ![256, 1]⟩
abbrev S1 : Shape := ⟨1, ![1]⟩
abbrev S256x6 : Shape := ⟨2, ![256, 6]⟩
abbrev S6 : Shape := ⟨1, ![6]⟩
abbrev S4x1x256x128 : Shape := ⟨4, ![4, 1, 256, 128]⟩
abbrev S4x25x256x128 : Shape := ⟨4, ![4, 25, 256, 128]⟩
abbrev S4x25x1x768 : Shape := ⟨4, ![4, 25, 1, 768]⟩
abbrev S4x25x256x768 : Shape := ⟨4, ![4, 25, 256, 768]⟩
abbrev S4x25x256x896 : Shape := ⟨4, ![4, 25, 256, 896]⟩
abbrev S4x25x256x256 : Shape := ⟨4, ![4, 25, 256, 256]⟩
abbrev S1x1x1x256 : Shape := ⟨4, ![1, 1, 1, 256]⟩
abbrev S_ : Shape := ⟨0, ![]⟩
abbrev S4x25x256x1 : Shape := ⟨4, ![4, 25, 256, 1]⟩
abbrev S1x1x1x1 : Shape := ⟨4, ![1, 1, 1, 1]⟩
abbrev S4x25x256 : Shape := ⟨3, ![4, 25, 256]⟩
abbrev S4x25x256x6 : Shape := ⟨4, ![4, 25, 256, 6]⟩
abbrev S1x1x1x6 : Shape := ⟨4, ![1, 1, 1, 6]⟩
abbrev S4x25x8 : Shape := ⟨3, ![4, 25, 8]⟩
abbrev S4x25x8x1 : Shape := ⟨4, ![4, 25, 8, 1]⟩
abbrev S4x25x8x128 : Shape := ⟨4, ![4, 25, 8, 128]⟩
abbrev S4x25x8x768 : Shape := ⟨4, ![4, 25, 8, 768]⟩
abbrev S4x25x8x896 : Shape := ⟨4, ![4, 25, 8, 896]⟩
abbrev S4x25x8x256 : Shape := ⟨4, ![4, 25, 8, 256]⟩
abbrev S4x25x8x6 : Shape := ⟨4, ![4, 25, 8, 6]⟩
abbrev S4x1 : Shape := ⟨2, ![4, 1]⟩
abbrev S4x2 : Shape := ⟨2, ![4, 2]⟩
abbrev S4x8 : Shape := ⟨2, ![4, 8]⟩
abbrev S4x256 : Shape := ⟨2, ![4, 256]⟩
abbrev S4x8x1 : Shape := ⟨3, ![4, 8, 1]⟩
abbrev S4x8x2 : Shape := ⟨3, ![4, 8, 2]⟩
abbrev S4x8x6 : Shape := ⟨3, ![4, 8, 6]⟩

abbrev nBuf : Space → Nat
  | .hbm => 210
  | .vmem => 0
  | .smem => 0
  | _ => 0

abbrev hbmTy0_0 (i : Nat) : BufTy := match i % 128 with
  | 0 => ⟨S4x256x128, .f32⟩
  | 1 => ⟨S4x25x768, .f32⟩
  | 2 => ⟨S4, .i32⟩
  | 3 => ⟨S896x256, .f32⟩
  | 4 => ⟨S256, .f32⟩
  | 5 => ⟨S256x1, .f32⟩
  | 6 => ⟨S1, .f32⟩
  | 7 => ⟨S896x256, .f32⟩
  | 8 => ⟨S256, .f32⟩
  | 9 => ⟨S256x6, .f32⟩
  | 10 => ⟨S6, .f32⟩
  | 11 => ⟨S896x256, .f32⟩
  | 12 => ⟨S256, .f32⟩
  | 13 => ⟨S256x1, .f32⟩
  | 14 => ⟨S1, .f32⟩
  | 15 => ⟨S896x256, .f32⟩
  | 16 => ⟨S256, .f32⟩
  | 17 => ⟨S256x6, .f32⟩
  | 18 => ⟨S6, .f32⟩
  | 19 => ⟨S4x1x256x128, .f32⟩
  | 20 => ⟨S4x25x256x128, .f32⟩
  | 21 => ⟨S4x25x1x768, .f32⟩
  | 22 => ⟨S4x25x256x768, .f32⟩
  | 23 => ⟨S4x25x256x896, .f32⟩
  | 24 => ⟨S4x25x256x256, .f32⟩
  | 25 => ⟨S1x1x1x256, .f32⟩
  | 26 => ⟨S4x25x256x256, .f32⟩
  | 27 => ⟨S4x25x256x256, .f32⟩
  | 28 => ⟨S_, .f32⟩
  | 29 => ⟨S4x25x256x256, .f32⟩
  | 30 => ⟨S4x25x256x256, .i1⟩
  | 31 => ⟨S_, .f32⟩
  | 32 => ⟨S4x25x256x256, .f32⟩
  | 33 => ⟨S4x25x256x256, .f32⟩
  | 34 => ⟨S4x25x256x256, .f32⟩
  | 35 => ⟨S4x25x256x1, .f32⟩
  | 36 => ⟨S1x1x1x1, .f32⟩
  | 37 => ⟨S4x25x256x1, .f32⟩
  | 38 => ⟨S4x25x256x1, .f32⟩
  | 39 => ⟨S4x25x256, .f32⟩
  | 40 => ⟨S4x25x256x256, .f32⟩
  | 41 => ⟨S1x1x1x256, .f32⟩
  | 42 => ⟨S4x25x256x256, .f32⟩
  | 43 => ⟨S4x25x256x256, .f32⟩
  | 44 => ⟨S_, .f32⟩
  | 45 => ⟨S4x25x256x256, .f32⟩
  | 46 => ⟨S4x25x256x256, .i1⟩
  | 47 => ⟨S_, .f32⟩
  | 48 => ⟨S4x25x256x256, .f32⟩
  | 49 => ⟨S4x25x256x256, .f32⟩
  | 50 => ⟨S4x25x256x256, .f32⟩
  | 51 => ⟨S4x25x256x6, .f32⟩
  | 52 => ⟨S1x1x1x6, .f32⟩
  | 53 => ⟨S4x25x256x6, .f32⟩
  | 54 => ⟨S4x25x256x6, .f32⟩
  | 55 => ⟨S4x25x8, .f32⟩
  | 56 => ⟨S4x25x8, .i32⟩
  | 57 => ⟨S4x25x8x1, .i32⟩
  | 58 => ⟨S_, .i32⟩
  | 59 => ⟨S4x25x8x1, .i32⟩
  | 60 => ⟨S4x25x8x1, .i1⟩
  | 61 => ⟨S_, .i32⟩
  | 62 => ⟨S4x25x8x1, .i32⟩
  | 63 => ⟨S4x25x8x1, .i32⟩
  | 64 => ⟨S4x25x8x1, .i32⟩
  | 65 => ⟨S1, .i32⟩
  | 66 => ⟨S_, .i32⟩
  | 67 => ⟨S4x25x8x1, .i32⟩
  | 68 => ⟨S4x25x8x1, .i1⟩
  | 69 => ⟨S1x1x1x1, .i32⟩
  | 70 => ⟨S4x25x8x1, .i32⟩
  | 71 => ⟨S4x25x8x1, .i1⟩
  | 72 => ⟨S4x25x8x1, .i1⟩
  | 73 => ⟨S_, .i1⟩
  | 74 => ⟨S4x25x8, .i1⟩
  | 75 => ⟨S4x25x8x128, .f32⟩
  | 76 => ⟨S4x25x8x128, .i1⟩
  | 77 => ⟨S_, .f32⟩
  | 78 => ⟨S4x25x8x128, .f32⟩
  | 79 => ⟨S4x25x8x128, .f32⟩
  | 80 => ⟨S4x25x1x768, .f32⟩
  | 81 => ⟨S4x25x8x768, .f32⟩
  | 82 => ⟨S4x25x8x896, .f32⟩
  | 83 => ⟨S4x25x8x256, .f32⟩
  | 84 => ⟨S1x1x1x256, .f32⟩
  | 85 => ⟨S4x25x8x256, .f32⟩
  | 86 => ⟨S4x25x8x256, .f32⟩
  | 87 => ⟨S_, .f32⟩
  | 88 => ⟨S4x25x8x256, .f32⟩
  | 89 => ⟨S4x25x8x256, .i1⟩
  | 90 => ⟨S_, .f32⟩
  | 91 => ⟨S4x25x8x256, .f32⟩
  | 92 => ⟨S4x25x8x256, .f32⟩
  | 93 => ⟨S4x25x8x256, .f32⟩
  | 94 => ⟨S4x25x8x1, .f32⟩
  | 95 => ⟨S1x1x1x1, .f32⟩
  | 96 => ⟨S4x25x8x1, .f32⟩
  | 97 => ⟨S4x25x8x1, .f32⟩
  | 98 => ⟨S4x25x8, .f32⟩
  | 99 => ⟨S4x25x8x256, .f32⟩
  | 100 => ⟨S1x1x1x256, .f32⟩
  | 101 => ⟨S4x25x8x256, .f32⟩
  | 102 => ⟨S4x25x8x256, .f32⟩
  | 103 => ⟨S_, .f32⟩
  | 104 => ⟨S4x25x8x256, .f32⟩
  | 105 => ⟨S4x25x8x256, .i1⟩
  | 106 => ⟨S_, .f32⟩
  | 107 => ⟨S4x25x8x256, .f32⟩
  | 108 => ⟨S4x25x8x256, .f32⟩
  | 109 => ⟨S4x25x8x256, .f32⟩
  | 110 => ⟨S4x25x8x6, .f32⟩
  | 111 => ⟨S1x1x1x6, .f32⟩
  | 112 => ⟨S4x25x8x6, .f32⟩
  | 113 => ⟨S4x25x8x6, .f32⟩
  | 114 => ⟨S4x25x8, .f32⟩
  | 115 => ⟨S4, .i32⟩
  | 116 => ⟨S_, .i32⟩
  | 117 => ⟨S4, .i32⟩
  | 118 => ⟨S4, .i1⟩
  | 119 => ⟨S_, .i32⟩
  | 120 => ⟨S4, .i32⟩
  | 121 => ⟨S4, .i32⟩
  | 122 => ⟨S4, .i32⟩
  | 123 => ⟨S_, .i32⟩
  | 124 => ⟨S4, .i32⟩
  | 125 => ⟨S4, .i1⟩
  | 126 => ⟨S_, .i32⟩
  | 127 => ⟨S4, .i32⟩
  | _ => ⟨S4x256x128, .f32⟩

abbrev hbmTy0_1 (i : Nat) : BufTy := match i % 128 with
  | 0 => ⟨S4, .i32⟩
  | 1 => ⟨S4, .i32⟩
  | 2 => ⟨S4x1, .i32⟩
  | 3 => ⟨S4x1, .i32⟩
  | 4 => ⟨S4x2, .i32⟩
  | 5 => ⟨S4x8, .f32⟩
  | 6 => ⟨S_, .i32⟩
  | 7 => ⟨S4, .i32⟩
  | 8 => ⟨S4, .i1⟩
  | 9 => ⟨S_, .i32⟩
  | 10 => ⟨S4, .i32⟩
  | 11 => ⟨S4, .i32⟩
  | 12 => ⟨S4, .i32⟩
  | 13 => ⟨S_, .i32⟩
  | 14 => ⟨S4, .i32⟩
  | 15 => ⟨S4, .i1⟩
  | 16 => ⟨S_, .i32⟩
  | 17 => ⟨S4, .i32⟩
  | 18 => ⟨S4, .i32⟩
  | 19 => ⟨S4, .i32⟩
  | 20 => ⟨S4x1, .i32⟩
  | 21 => ⟨S4x1, .i32⟩
  | 22 => ⟨S4x2, .i32⟩
  | 23 => ⟨S4x8, .i32⟩
  | 24 => ⟨S_, .f32⟩
  | 25 => ⟨S4x256, .f32⟩
  | 26 => ⟨S4x1, .i32⟩
  | 27 => ⟨S_, .i32⟩
  | 28 => ⟨S4x1, .i32⟩
  | 29 => ⟨S4x1, .i1⟩
  | 30 => ⟨S_, .i32⟩
  | 31 => ⟨S4x1, .i32⟩
  | 32 => ⟨S4x1, .i32⟩
  | 33 => ⟨S4x1, .i32⟩
  | 34 => ⟨S_, .i32⟩
  | 35 => ⟨S4x8, .i32⟩
  | 36 => ⟨S4x8, .i1⟩
  | 37 => ⟨S_, .i32⟩
  | 38 => ⟨S4x8, .i32⟩
  | 39 => ⟨S4x8, .i32⟩
  | 40 => ⟨S4x8, .i32⟩
  | 41 => ⟨S4x8, .i32⟩
  | 42 => ⟨S4x8x1, .i32⟩
  | 43 => ⟨S4x8x1, .i32⟩
  | 44 => ⟨S4x8x2, .i32⟩
  | 45 => ⟨S4x256, .f32⟩
  | 46 => ⟨S_, .i32⟩
  | 47 => ⟨S4, .i32⟩
  | 48 => ⟨S4, .i1⟩
  | 49 => ⟨S_, .i32⟩
  | 50 => ⟨S4, .i32⟩
  | 51 => ⟨S4, .i32⟩
  | 52 => ⟨S4, .i32⟩
  | 53 => ⟨S_, .i32⟩
  | 54 => ⟨S4, .i32⟩
  | 55 => ⟨S4, .i1⟩
  | 56 => ⟨S_, .i32⟩
  | 57 => ⟨S4, .i32⟩
  | 58 => ⟨S4, .i32⟩
  | 59 => ⟨S4, .i32⟩
  | 60 => ⟨S4x1, .i32⟩
  | 61 => ⟨S4x1, .i32⟩
  | 62 => ⟨S4x2, .i32⟩
  | 63 => ⟨S4x256, .f32⟩
  | 64 => ⟨S_, .i32⟩
  | 65 => ⟨S4, .i32⟩
  | 66 => ⟨S4, .i1⟩
  | 67 => ⟨S_, .i32⟩
  | 68 => ⟨S4, .i32⟩
  | 69 => ⟨S4, .i32⟩
  | 70 => ⟨S4, .i32⟩
  | 71 => ⟨S_, .i32⟩
  | 72 => ⟨S4, .i32⟩
  | 73 => ⟨S4, .i1⟩
  | 74 => ⟨S_, .i32⟩
  | 75 => ⟨S4, .i32⟩
  | 76 => ⟨S4, .i32⟩
  | 77 => ⟨S4, .i32⟩
  | 78 => ⟨S4x1, .i32⟩
  | 79 => ⟨S4x1, .i32⟩
  | 80 => ⟨S4x2, .i32⟩
  | 81 => ⟨S4x8x6, .f32⟩
  | _ => ⟨S4x256x128, .f32⟩

abbrev hbmTy (i : Nat) : BufTy := match i / 128 with
  | 0 => hbmTy0_0 i
  | 1 => hbmTy0_1 i
  | _ => ⟨S4x256x128, .f32⟩

abbrev bufTy : (tb : Table) → Fin (tcTables nBuf tb) → BufTy
  | .hbm, ⟨i, _⟩ => hbmTy i
  | _, _ => ⟨S4x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst : Ref sig .tc := ⟨.hbm, 28, rfl⟩
abbrev main_v9 : Ref sig .tc := ⟨.hbm, 29, rfl⟩
abbrev main_v10 : Ref sig .tc := ⟨.hbm, 30, rfl⟩
abbrev main_cst_0 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_1 : Ref sig .tc := ⟨.hbm, 44, rfl⟩
abbrev main_v23 : Ref sig .tc := ⟨.hbm, 45, rfl⟩
abbrev main_v24 : Ref sig .tc := ⟨.hbm, 46, rfl⟩
abbrev main_cst_2 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_values : Ref sig .tc := ⟨.hbm, 55, rfl⟩
abbrev main_indices : Ref sig .tc := ⟨.hbm, 56, rfl⟩
abbrev main_v32 : Ref sig .tc := ⟨.hbm, 57, rfl⟩
abbrev main_call2_c : Ref sig .tc := ⟨.hbm, 58, rfl⟩
abbrev main_call2_v0 : Ref sig .tc := ⟨.hbm, 59, rfl⟩
abbrev main_call2_v1 : Ref sig .tc := ⟨.hbm, 60, rfl⟩
abbrev main_call2_c_0 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_c_1 : Ref sig .tc := ⟨.hbm, 65, rfl⟩
abbrev main_call2_c_2 : Ref sig .tc := ⟨.hbm, 66, rfl⟩
abbrev main_call2_v5 : Ref sig .tc := ⟨.hbm, 67, rfl⟩
abbrev main_call2_v6 : Ref sig .tc := ⟨.hbm, 68, rfl⟩
abbrev main_call2_v7 : Ref sig .tc := ⟨.hbm, 69, rfl⟩
abbrev main_call2_v8 : Ref sig .tc := ⟨.hbm, 70, rfl⟩
abbrev main_call2_v9 : Ref sig .tc := ⟨.hbm, 71, rfl⟩
abbrev main_call2_v10 : Ref sig .tc := ⟨.hbm, 72, rfl⟩
abbrev main_call2_c_3 : Ref sig .tc := ⟨.hbm, 73, rfl⟩
abbrev main_call2_v11 : Ref sig .tc := ⟨.hbm, 74, rfl⟩
abbrev main_call2_v12 : Ref sig .tc := ⟨.hbm, 75, rfl⟩
abbrev main_call2_v13 : Ref sig .tc := ⟨.hbm, 76, rfl⟩
abbrev main_call2_cst : Ref sig .tc := ⟨.hbm, 77, rfl⟩
abbrev main_call2_v14 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_cst_3 : Ref sig .tc := ⟨.hbm, 87, rfl⟩
abbrev main_v41 : Ref sig .tc := ⟨.hbm, 88, rfl⟩
abbrev main_v42 : Ref sig .tc := ⟨.hbm, 89, rfl⟩
abbrev main_cst_4 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_cst_5 : Ref sig .tc := ⟨.hbm, 103, rfl⟩
abbrev main_v55 : Ref sig .tc := ⟨.hbm, 104, rfl⟩
abbrev main_v56 : Ref sig .tc := ⟨.hbm, 105, rfl⟩
abbrev main_cst_6 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_c : Ref sig .tc := ⟨.hbm, 116, rfl⟩
abbrev main_v66 : Ref sig .tc := ⟨.hbm, 117, rfl⟩
abbrev main_v67 : Ref sig .tc := ⟨.hbm, 118, rfl⟩
abbrev main_c_7 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_c_8 : Ref sig .tc := ⟨.hbm, 123, rfl⟩
abbrev main_v71 : Ref sig .tc := ⟨.hbm, 124, rfl⟩
abbrev main_v72 : Ref sig .tc := ⟨.hbm, 125, rfl⟩
abbrev main_c_9 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_c_10 : Ref sig .tc := ⟨.hbm, 134, rfl⟩
abbrev main_v80 : Ref sig .tc := ⟨.hbm, 135, rfl⟩
abbrev main_v81 : Ref sig .tc := ⟨.hbm, 136, rfl⟩
abbrev main_c_11 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_c_12 : Ref sig .tc := ⟨.hbm, 141, rfl⟩
abbrev main_v85 : Ref sig .tc := ⟨.hbm, 142, rfl⟩
abbrev main_v86 : Ref sig .tc := ⟨.hbm, 143, rfl⟩
abbrev main_c_13 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_cst_14 : Ref sig .tc := ⟨.hbm, 152, rfl⟩
abbrev main_v94 : Ref sig .tc := ⟨.hbm, 153, rfl⟩
abbrev main_v95 : Ref sig .tc := ⟨.hbm, 154, rfl⟩
abbrev main_c_15 : Ref sig .tc := ⟨.hbm, 155, rfl⟩
abbrev main_v96 : Ref sig .tc := ⟨.hbm, 156, rfl⟩
abbrev main_v97 : Ref sig .tc := ⟨.hbm, 157, rfl⟩
abbrev main_c_16 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_c_17 : Ref sig .tc := ⟨.hbm, 162, rfl⟩
abbrev main_v101 : Ref sig .tc := ⟨.hbm, 163, rfl⟩
abbrev main_v102 : Ref sig .tc := ⟨.hbm, 164, rfl⟩
abbrev main_c_18 : Ref sig .tc := ⟨.hbm, 165, rfl⟩
abbrev main_v103 : Ref sig .tc := ⟨.hbm, 166, rfl⟩
abbrev main_v104 : Ref sig .tc := ⟨.hbm, 167, rfl⟩
abbrev main_v105 : Ref sig .tc := ⟨.hbm, 168, rfl⟩
abbrev main_v106 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_c_19 : Ref sig .tc := ⟨.hbm, 174, rfl⟩
abbrev main_v111 : Ref sig .tc := ⟨.hbm, 175, rfl⟩
abbrev main_v112 : Ref sig .tc := ⟨.hbm, 176, rfl⟩
abbrev main_c_20 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_c_21 : Ref sig .tc := ⟨.hbm, 181, rfl⟩
abbrev main_v116 : Ref sig .tc := ⟨.hbm, 182, rfl⟩
abbrev main_v117 : Ref sig .tc := ⟨.hbm, 183, rfl⟩
abbrev main_c_22 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_v121 : Ref sig .tc := ⟨.hbm, 188, rfl⟩
abbrev main_v122 : Ref sig .tc := ⟨.hbm, 189, rfl⟩
abbrev main_v123 : Ref sig .tc := ⟨.hbm, 190, rfl⟩
abbrev main_v124 : Ref sig .tc := ⟨.hbm, 191, rfl⟩
abbrev main_c_23 : Ref sig .tc := ⟨.hbm, 192, rfl⟩
abbrev main_v125 : Ref sig .tc := ⟨.hbm, 193, rfl⟩
abbrev main_v126 : Ref sig .tc := ⟨.hbm, 194, rfl⟩
abbrev main_c_24 : Ref sig .tc := ⟨.hbm, 195, rfl⟩
abbrev main_v127 : Ref sig .tc := ⟨.hbm, 196, rfl⟩
abbrev main_v128 : Ref sig .tc := ⟨.hbm, 197, rfl⟩
abbrev main_v129 : Ref sig .tc := ⟨.hbm, 198, rfl⟩
abbrev main_c_25 : Ref sig .tc := ⟨.hbm, 199, rfl⟩
abbrev main_v130 : Ref sig .tc := ⟨.hbm, 200, rfl⟩
abbrev main_v131 : Ref sig .tc := ⟨.hbm, 201, rfl⟩
abbrev main_c_26 : Ref sig .tc := ⟨.hbm, 202, rfl⟩
abbrev main_v132 : Ref sig .tc := ⟨.hbm, 203, rfl⟩
abbrev main_v133 : Ref sig .tc := ⟨.hbm, 204, rfl⟩
abbrev main_v134 : Ref sig .tc := ⟨.hbm, 205, rfl⟩
abbrev main_v135 : Ref sig .tc := ⟨.hbm, 206, rfl⟩
abbrev main_v136 : Ref sig .tc := ⟨.hbm, 207, rfl⟩
abbrev main_v137 : Ref sig .tc := ⟨.hbm, 208, rfl⟩
abbrev main_v138 : Ref sig .tc := ⟨.hbm, 209, rfl⟩

abbrev nD : Nat := 1
abbrev τ : Topo := Topo.v7x

variable {F : FTy → Type} [FloatOps F]
-- ==== Proof.Target.lean ====
/-
  The target phrase a batch names, out of the precondition's two comparisons.
-/
module

public import Idealize.ShloMosaic.PureOps

@[expose] public section
namespace Cert.Target
open Idealize.ShloMosaic

/-- A word between 0 and 24, read as signed, is the word of a number below 25. -/
theorem exists_of_bounds (x : BitVec 32) (h0 : (0#32).sle x = true) (h1 : x.slt 25#32 = true) : ∃ r : Fin 25, x = BitVec.ofNat 32 r.val := by
  have a : (0 : ℤ) ≤ x.toInt := by simpa [BitVec.sle] using h0
  have b : x.toInt < 25 := by simpa [BitVec.slt] using h1
  have n : x.toNat < 25 := by
    rw [BitVec.toInt_eq_toNat_cond] at a b
    have := x.isLt
    split at a <;> rename_i h <;> simp only [h, if_true, if_false] at b <;> omega
  refine ⟨⟨x.toNat, n⟩, ?_⟩
  apply BitVec.eq_of_toNat_eq
  rw [BitVec.toNat_ofNat, Nat.mod_eq_of_lt x.isLt]

/-- Where both comparisons' bits are one, the word is that of a number below 25. -/
theorem exists_of_bits {s : Shape} (t z n : IVec s 32) (i : s.Idx) (hz : z i = 0#32) (hn : n i = 25#32)
    (h : andi (cmpi .sge t z) (cmpi .slt t n) i = 1#1) : ∃ r : Fin 25, t i = BitVec.ofNat 32 r.val := by
  have key : BitVec.ofBool ((z i).sle (t i)) &&& BitVec.ofBool ((t i).slt (n i)) = 1#1 := h
  rw [hz, hn] at key
  refine exists_of_bounds (t i) ?_ ?_
  · revert key; cases (0#32).sle (t i) <;> cases (t i).slt 25#32 <;> decide
  · revert key; cases (0#32).sle (t i) <;> cases (t i).slt 25#32 <;> decide

end Cert.Target
-- ==== Proof.Spec.lean ====
/-
  What the problem computes, over the extended reals, as plain functions of the argument arrays.
-/
module

public import Idealize.ShloMosaic.Lib.Pointwise

@[expose] public section
noncomputable section
namespace Cert.Spec
open Idealize.ShloMosaic Idealize.ShloMosaic.Pointwise

/-- The slope of the rectifier below zero: the literal both programs print. -/
def lowSlope : EReal := Ideal.ofBits .f32 0x3C23D70A#32

/-- The literal that stands in the detection array where no top box lands. -/
def fill : EReal := Ideal.ofBits .f32 0xCE6E6B28#32

/-- The leaky rectifier. -/
def leaky (h : EReal) : EReal := if 0 < h then h else lowSlope * h

/-- A box feature's row lies among the rows of the first weights. -/
theorem lo_lt (d : Fin 128) : d.val < 896 := by omega

/-- A phrase feature's row lies among the rows of the first weights. -/
theorem hi_lt (d : Fin 768) : 128 + d.val < 896 := by omega

/-- One hidden unit of a head before the rectifier: the box features against the first 128 rows of the weights,
    the phrase features against the other 768, and the bias. -/
def hid (W : (⟨2, ![896, 256]⟩ : Shape).Idx → EReal) (b : Fin 256 → EReal) (x : Fin 128 → EReal) (y : Fin 768 → EReal)
    (j : Fin 256) : EReal :=
  (∑ d : Fin 128, x d * W (ix2 (⟨d.val, by omega⟩ : Fin 896) j)
    + ∑ d : Fin 768, y d * W (ix2 (⟨128 + d.val, by omega⟩ : Fin 896) j)) + b j

/-- One output of a head: the rectified hidden layer against a column of the second weights, and its bias. -/
def head (W : (⟨2, ![896, 256]⟩ : Shape).Idx → EReal) (b : Fin 256 → EReal) (w : Fin 256 → EReal) (o : EReal)
    (x : Fin 128 → EReal) (y : Fin 768 → EReal) : EReal :=
  (∑ j : Fin 256, leaky (hid W b x y j) * w j) + o

/-- How many scores come before score `n`: the greater ones, and the equal ones at a smaller index. -/
def rank (s : Fin 256 → EReal) (n : Fin 256) : ℕ :=
  (Finset.univ.filter fun j : Fin 256 => s n < s j ∨ (s j = s n ∧ j < n)).card

/-- The detection row: the value of place `k` at index `P k`, and the fill where no place points. -/
def placed (P : Fin 8 → Fin 256) (z : Fin 8 → EReal) (n : Fin 256) : EReal :=
  open Classical in if h : ∃ k, n = P k then z h.choose else fill

/-- Where place `k` points, its value stands. -/
theorem placed_hit (P : Fin 8 → Fin 256) (hP : Function.Injective P) (z : Fin 8 → EReal) (k : Fin 8) : placed P z (P k) = z k := by
  have h : ∃ k', P k = P k' := ⟨k, rfl⟩
  rw [placed, dif_pos h]
  exact congrArg z (hP h.choose_spec).symm

/-- Where no place points, the fill stands. -/
theorem placed_miss (P : Fin 8 → Fin 256) (z : Fin 8 → EReal) (n : Fin 256) (h : ¬ ∃ k, n = P k) : placed P z n = fill := by
  rw [placed, dif_neg h]

end Cert.Spec
-- ==== Proof.Scalars.lean ====
/-
  Scalars: one bit read as a number, one-hot rows, and a count kept as a word.
-/
module

public import proofs.«01_k».proof.Proof.Spec

@[expose] public section
noncomputable section
namespace Cert.Scalars
open Idealize.ShloMosaic Idealize.ShloMosaic.Pointwise Cert.Spec

/-- One bit widened to a word and read as a number is one where it is set and zero elsewhere. -/
theorem bit_number (q : Bool) :
    (FloatOps.sitofp FTy.f32 (BitVec.setWidth 32 (BitVec.ofBool q)) : Ideal .f32) = if q = true then 1 else 0 := by
  cases q
  · show (((0#32).toInt : ℝ) : EReal) = _
    simp
  · show (((1#32).toInt : ℝ) : EReal) = _
    have : (1#32).toInt = 1 := by decide
    simp [this]

/-- A test for equality of words, read as a number. -/
theorem eq_number (x y : BitVec 32) :
    (FloatOps.sitofp FTy.f32 (BitVec.setWidth 32 (IntOp.cmpi CmpIPredicate.eq x y)) : Ideal .f32)
      = if x = y then 1 else 0 := by
  have h : IntOp.cmpi CmpIPredicate.eq x y = BitVec.ofBool (x == y) := rfl
  rw [h, bit_number]
  simp

/-- Two small numbers are the same word just when they are equal. -/
theorem ofNat_eq {a b : ℕ} (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · rintro rfl; rfl

/-- A one-hot row against a column picks the column's entry. -/
theorem sum_pick {n : ℕ} (p : Fin n → Prop) [DecidablePred p] (f : Fin n → EReal) (k : Fin n) (hp : ∀ x, p x ↔ x = k) :
    (∑ x : Fin n, (if p x then (1 : EReal) else 0) * f x) = f k := by
  rw [Finset.sum_eq_single k]
  · rw [if_pos ((hp k).2 rfl), one_mul]
  · intro x _ hx
    rw [if_neg fun h => hx ((hp x).1 h), zero_mul]
  · intro h; exact absurd (Finset.mem_univ k) h

/-- Words holding one bit each, added up over a set of indices: the number of bits set. -/
theorem fold_count {n : ℕ} (q : Fin n → Bool) (S : Finset (Fin n)) :
    Finset.fold IntOp.addi (0#32) (fun x => BitVec.setWidth 32 (BitVec.ofBool (q x))) S
      = BitVec.ofNat 32 (S.filter fun x => q x = true).card := by
  classical
  induction S using Finset.induction_on with
  | empty => rfl
  | insert a S ha ih =>
    rw [Finset.fold_insert ha, ih, Finset.filter_insert]
    cases hq : q a
    · simp only [Bool.false_eq_true, if_false]
      show (0#32) + _ = _
      simp
    · simp only [if_true]
      rw [Finset.card_insert_of_notMem fun h => ha (Finset.mem_filter.1 h).1]
      show (1#32) + BitVec.ofNat 32 _ = _
      rw [Nat.add_comm, BitVec.ofNat_add]

end Cert.Scalars
-- ==== Proof.KernelSim.lean ====
/-
  The kernel's first part: the phrase row its one-hot product picks, and the scores of all boxes.
-/
module

public import proofs.«01_k».proof.Proof.Scalars
public import proofs.«01_k».proof.Proof.Gen.KernelIdeal.Frame

@[expose] public section
noncomputable section
namespace Cert.KernelValue
open Cert.KernelIdeal Cert.KernelIdeal.Gen Idealize.ShloMosaic Idealize.ShloMosaic.Pointwise Cert.Spec Cert.Scalars

/-- The product of the one-hot rows with the phrases: row `b` is the target phrase of batch `b`. -/
theorem phrase_row (p : Vec Ideal S4x25x768 .f32) (t : Fin 4 → BitVec 32) (r : Fin 4 → Fin 25)
    (ht : ∀ b, t b = BitVec.ofNat 32 (r b).val) (b : Fin 4) (d : Fin 768) :
    k0_pay1 p (t 0) (t 1) (t 2) (t 3) (ix2 b d) = p (ix3 b (r b) d) := by
  pointwise [k0_pay1]
  have word : (if b.val < 1 then Scalar.addi (t 0) 0#32
      else if b.val - 1 < 1 then Scalar.addi (t 1) 25#32
      else if b.val - 1 - 1 < 1 then Scalar.addi (t 2) 50#32 else Scalar.addi (t 3) 75#32)
      = BitVec.ofNat 32 (25 * b.val + (r b).val) := by
    have hadd (x y : BitVec 32) : Scalar.addi x y = x + y := rfl
    simp only [hadd, ht]
    match b with
    | 0 => simp
    | 1 => simp [BitVec.ofNat_add, BitVec.add_comm]
    | 2 => simp [BitVec.ofNat_add, BitVec.add_comm]
    | 3 => simp [BitVec.ofNat_add, BitVec.add_comm]
  simp only [dite_eq_ite, word, eq_number]
  rw [sum_pick (fun x : Fin 100 => BitVec.ofNat 32 x.val = BitVec.ofNat 32 (25 * b.val + (r b).val)) _
    ⟨25 * b.val + (r b).val, by omega⟩ fun x => by
      rw [ofNat_eq (by omega) (by omega), Fin.ext_iff]]
  congr 1
  ext i
  match i with
  | 0 => simp; omega
  | 1 => simp
  | 2 => rfl

/-- The scores over parts: the boxes' part of the hidden layer, row `256 b + n`, and the phrases' part, row `b`,
    are added with the bias, rectified, and taken against the second weights. -/
theorem sim_of_parts (v28 : FVec Ideal S1024x256 .f32) (v30 : FVec Ideal S4x256 .f32) (v33 : FVec Ideal S256x256 .f32)
    (v34 : FVec Ideal S1x256 .f32) (b1 : FVec Ideal S1x256 .f32) (w2 : FVec Ideal S256x1 .f32) (b2 : FVec Ideal S1x1 .f32)
    (A : Fin 4 → Fin 256 → Fin 256 → EReal) (B : Fin 4 → Fin 256 → EReal)
    (h28 : ∀ (q : Fin 1024) (b : Fin 4) (n j : Fin 256), q.val = b.val * 256 + n.val → v28 (ix2 q j) = A b n j)
    (h30 : ∀ (b : Fin 4) (j : Fin 256), v30 (ix2 b j) = B b j)
    (h33 : ∀ n j : Fin 256, v33 (ix2 n j) = B 0 j) (h34 : ∀ j : Fin 256, v34 (ix2 0 j) = B 1 j) (b : Fin 4) (n : Fin 256) :
    k0_pay6 v28 v30 v33 v34 b1 w2 b2 (ix2 n b)
      = (∑ j : Fin 256, leaky (A b n j + B b j + b1 (ix2 0 j)) * w2 (ix2 j 0)) + b2 (ix2 0 0) := by
  have c2 : ¬ (512 + n.val < 256) := by omega
  have c3 : ¬ (768 + n.val < 256) := by omega
  have d2 : ¬ (512 + n.val - 256 < 256) := by omega
  have d3 : ¬ (768 + n.val - 256 < 256) := by omega
  have e2 : 512 + n.val - 256 - 256 < 256 := by omega
  have e3 : ¬ (768 + n.val - 256 - 256 < 256) := by omega
  match b with
  | 0 =>
    pointwise [k0_pay6]
    simp only [h33, h28 ⟨n.val, _⟩ 0 n _ (by simp), leaky, lowSlope]
  | 1 =>
    pointwise [k0_pay6]
    simp only [h34, h28 ⟨256 + n.val, _⟩ 1 n _ (by simp), leaky, lowSlope]
  | 2 =>
    pointwise [k0_pay6]
    simp only [h30, h28 ⟨512 + n.val, _⟩ 2 n _ (by simp), leaky, lowSlope, c2, d2, e2, dite_true, dite_false]
  | 3 =>
    pointwise [k0_pay6]
    simp only [h30, h28 ⟨768 + n.val, _⟩ 3 n _ (by simp), leaky, lowSlope, c3, d3, e3, dite_true, dite_false]

/-- The score of box `n` in batch `b`, as the kernel's first part leaves it. -/
theorem sim_entry (box : Vec Ideal S4x256x128 .f32) (p : Vec Ideal S4x25x768 .f32) (t : Fin 4 → BitVec 32) (r : Fin 4 → Fin 25)
    (ht : ∀ b, t b = BitVec.ofNat 32 (r b).val) (W : FVec Ideal S896x256 .f32)
    (lo : FVec Ideal S128x256 .f32) (hi : FVec Ideal S768x256 .f32)
    (hlo : ∀ (d : Fin 128) (j : Fin 256), lo (ix2 d j) = W (ix2 (⟨d.val, by omega⟩ : Fin 896) j))
    (hhi : ∀ (d : Fin 768) (j : Fin 256), hi (ix2 d j) = W (ix2 (⟨128 + d.val, by omega⟩ : Fin 896) j))
    (b1 : FVec Ideal S1x256 .f32) (w2 : FVec Ideal S256x1 .f32) (b2 : FVec Ideal S1x1 .f32) (b : Fin 4) (n : Fin 256) :
    k0_pay6 (k0_pay2 box lo) (k0_pay3 p (t 0) (t 1) (t 2) (t 3) hi) (k0_pay4 p (t 0) (t 1) (t 2) (t 3) hi)
      (k0_pay5 p (t 0) (t 1) (t 2) (t 3) hi) b1 w2 b2 (ix2 n b)
      = head W (fun j => b1 (ix2 0 j)) (fun j => w2 (ix2 j 0)) (b2 (ix2 0 0)) (fun d => box (ix3 b n d)) (fun d => p (ix3 b (r b) d)) := by
  have h2 (q : Fin 1024) (b : Fin 4) (n j : Fin 256) (hq : q.val = b.val * 256 + n.val) : k0_pay2 box lo (ix2 q j) = ∑ d : Fin 128, box (ix3 b n d) * W (ix2 (⟨d.val, by omega⟩ : Fin 896) j) := by
    pointwise [k0_pay2]
    refine Finset.sum_congr rfl fun d _ => ?_
    rw [hlo]
    congr 2
    ext i
    match i with
    | 0 => simp; omega
    | 1 => simp; omega
    | 2 => rfl
  have h3 (c : Fin 4) (j : Fin 256) : k0_pay3 p (t 0) (t 1) (t 2) (t 3) hi (ix2 c j) = ∑ d : Fin 768, p (ix3 c (r c) d) * W (ix2 (⟨128 + d.val, by omega⟩ : Fin 896) j) := by
    pointwise [k0_pay3]
    refine Finset.sum_congr rfl fun d _ => ?_
    rw [hhi, phrase_row p t r ht]
  have h4 (c : Fin 256) (j : Fin 256) : k0_pay4 p (t 0) (t 1) (t 2) (t 3) hi (ix2 c j) = ∑ d : Fin 768, p (ix3 0 (r 0) d) * W (ix2 (⟨128 + d.val, by omega⟩ : Fin 896) j) := by
    pointwise [k0_pay4]
    exact h3 0 j
  have h5 (j : Fin 256) : k0_pay5 p (t 0) (t 1) (t 2) (t 3) hi (ix2 0 j) = ∑ d : Fin 768, p (ix3 1 (r 1) d) * W (ix2 (⟨128 + d.val, by omega⟩ : Fin 896) j) := by
    pointwise [k0_pay5]
    exact h3 1 j
  rw [sim_of_parts _ _ _ _ b1 w2 b2 (fun b n j => ∑ d : Fin 128, box (ix3 b n d) * W (ix2 (⟨d.val, by omega⟩ : Fin 896) j))
    (fun b j => ∑ d : Fin 768, p (ix3 b (r b) d) * W (ix2 (⟨128 + d.val, by omega⟩ : Fin 896) j)) h2 h3 h4 h5]
  rfl
end Cert.KernelValue
-- ==== Proof.Rank.lean ====
/-
  The order of the scores: how many come before one, and which one stands at a given place.
-/
module

public import proofs.«01_k».proof.Proof.Spec
public import Idealize.ShloMosaic.Lib.SortPrefix

@[expose] public section
noncomputable section
namespace Cert.Rank
open Idealize.ShloMosaic Cert.Spec

/-- Score `a` comes before score `b`: it is greater, or equal at a smaller index. -/
def before (s : Fin 256 → EReal) (a b : Fin 256) : Bool := decide (s b < s a) || (decide (s a = s b) && decide (a < b))

/-- The index whose score stands at place `k`. -/
def pick (s : Fin 256 → EReal) (k : Fin 256) : Fin 256 := sortedFrom (before s) k

/-- Coming before is a strict total order of the indices. -/
theorem before_total (s : Fin 256 → EReal) : StrictTotalBefore (before s) := by
  classical
  have h := StrictTotalBefore.of_key_then_position (n := 256) (fun x y : EReal => decide (y < x)) s
    (fun a => by simp) (fun a b c hab hbc => by
      simp only [decide_eq_true_eq] at hab hbc ⊢; exact lt_trans hbc hab)
    (fun a b => by
      simp only [decide_eq_true_eq]
      rcases lt_trichotomy a b with h | h | h
      · exact Or.inr (Or.inr h)
      · exact Or.inr (Or.inl h)
      · exact Or.inl h)
  exact { irrefl := fun a => by simp [before], trans := fun a b c hab hbc => by
            have := h.trans a b c (by simpa [before] using hab) (by simpa [before] using hbc)
            simpa [before] using this
          total := fun a b hne => by
            have := h.total a b hne
            simpa [before] using this }

/-- Earlier places hold scores that come before. -/
theorem before_pick (s : Fin 256 → EReal) (i k : Fin 256) : before s (pick s i) (pick s k) = true ↔ i < k := by
  have hB := before_total s
  have ordered : ∀ i k : Fin 256, i < k → before s (pick s k) (pick s i) = false := fun i k h =>
    sortedFrom_noInversion (before s) (before s) (fun a b h => hB.asymm a b h) (fun _ _ h => h) hB.negTrans i k h
  constructor
  · intro h
    rcases lt_trichotomy i k with hik | hik | hik
    · exact hik
    · subst hik; rw [hB.irrefl] at h; cases h
    · rw [ordered k i hik] at h; cases h
  · intro h
    rcases hB.total (pick s i) (pick s k) (fun e => (ne_of_lt h) (sortedFrom_injective _ e)) with h' | h'
    · exact h'
    · rw [ordered i k h] at h'; cases h'

/-- The score at place `k` has `k` scores before it. -/
theorem rank_pick (s : Fin 256 → EReal) (k : Fin 256) : rank s (pick s k) = k.val := by
  classical
  have : (Finset.univ.filter fun j : Fin 256 => s (pick s k) < s j ∨ (s j = s (pick s k) ∧ j < pick s k))
      = (Finset.Iio k).image (pick s) := by
    ext j
    obtain ⟨i, rfl⟩ := sortedFrom_surjective (before s) j
    have := before_pick s i k
    simp only [before, Bool.or_eq_true, Bool.and_eq_true, decide_eq_true_eq] at this
    simp only [Finset.mem_filter, Finset.mem_univ, true_and, Finset.mem_image, Finset.mem_Iio]
    constructor
    · intro h; exact ⟨i, this.1 h, rfl⟩
    · rintro ⟨i', hi', e⟩
      obtain rfl := sortedFrom_injective _ e
      exact this.2 hi'
  rw [rank, this, Finset.card_image_of_injective _ (show Function.Injective (pick s) from sortedFrom_injective _), Fin.card_Iio]

/-- The place of a score is how many come before it. -/
theorem rank_eq (s : Fin 256 → EReal) (n k : Fin 256) : rank s n = k.val ↔ n = pick s k := by
  obtain ⟨i, rfl⟩ := sortedFrom_surjective (before s) n
  have h := rank_pick s i
  constructor
  · intro hk
    have : i = k := Fin.ext (h.symm.trans hk)
    rw [this]; rfl
  · intro e
    have : i = k := sortedFrom_injective _ e
    rw [← this]; exact h

/-- Fewer than all of the scores come before one. -/
theorem rank_lt (s : Fin 256 → EReal) (n : Fin 256) : rank s n < 256 := by
  obtain ⟨i, rfl⟩ := sortedFrom_surjective (before s) n
  have h := rank_pick s i
  exact h ▸ i.isLt

/-- Two sorts that list the positions alike are alike at every place. -/
theorem sortedFrom_of_positions {n : ℕ} {R R' : Fin n → Fin n → Bool} (e : sortPositions n R = sortPositions n R') :
    sortedFrom R = sortedFrom R' := by
  funext k
  unfold sortedFrom
  exact List.get_of_eq e _

/-- A stable sort that compares the scores alone leaves equal scores in the order of their indices. -/
theorem sortedFrom_score (s : Fin 256 → EReal) : sortedFrom (fun a b : Fin 256 => decide (s b < s a)) = pick s := by
  have key : ∀ l : List (Fin 256), l.Pairwise (· < ·) →
      stableSort (fun a b : Fin 256 => decide (s b < s a)) l = stableSort (before s) l := by
    intro l hl
    induction l with
    | nil => rfl
    | cons a l ih =>
      rw [List.pairwise_cons] at hl
      show insertBefore _ a (stableSort _ l) = insertBefore _ a (stableSort _ l)
      rw [ih hl.2]
      refine insertBefore_congr _ _ a _ fun b hb => ?_
      have hab : a < b := hl.1 b ((perm_stableSort _ l).mem_iff.1 hb)
      simp [before, not_lt.2 hab.le]
  exact sortedFrom_of_positions (key _ (List.pairwise_lt_finRange 256))

end Cert.Rank
-- ==== Proof.KernelTop.lean ====
/-
  The kernel's one-hot rows: row `k` marks the box whose score stands at place `k`.
-/
module

public import proofs.«01_k».proof.Proof.Scalars
public import proofs.«01_k».proof.Proof.Rank
public import proofs.«01_k».proof.Proof.Gen.KernelIdeal.Frame

@[expose] public section
noncomputable section
namespace Cert.KernelValue
open Cert.KernelIdeal Cert.KernelIdeal.Gen Idealize.ShloMosaic Idealize.ShloMosaic.Pointwise Cert.Spec Cert.Scalars Cert.Rank

/-- The count of the scores before score `n`, as a column of words added up. -/
theorem count_before (s : Fin 256 → EReal) (n : Fin 256) :
    Finset.fold IntOp.addi (0#32) (fun j : Fin 256 => BitVec.setWidth 32 (IntOp.ori (BitVec.ofBool (decide (s n < s j)))
      (IntOp.andi (BitVec.ofBool (decide (s j = s n)))
        (IntOp.cmpi CmpIPredicate.slt (BitVec.ofNat 32 j.val) (BitVec.ofNat 32 n.val))))) Finset.univ
      = BitVec.ofNat 32 (rank s n) := by
  have bit (j : Fin 256) : IntOp.ori (BitVec.ofBool (decide (s n < s j)))
      (IntOp.andi (BitVec.ofBool (decide (s j = s n)))
        (IntOp.cmpi CmpIPredicate.slt (BitVec.ofNat 32 j.val) (BitVec.ofNat 32 n.val)))
      = BitVec.ofBool (decide (s n < s j ∨ (s j = s n ∧ j < n))) := by
    have hlt : IntOp.cmpi CmpIPredicate.slt (BitVec.ofNat 32 j.val) (BitVec.ofNat 32 n.val) = BitVec.ofBool (decide (j < n)) := by
      show BitVec.ofBool (BitVec.slt _ _) = _
      congr 1
      rw [BitVec.slt_eq_decide, BitVec.toInt_eq_toNat_of_lt (by simp; omega), BitVec.toInt_eq_toNat_of_lt (by simp; omega)]
      simp only [BitVec.toNat_ofNat, decide_eq_decide]
      rw [Nat.mod_eq_of_lt (by omega), Nat.mod_eq_of_lt (by omega), Fin.lt_def]
      exact Nat.cast_lt
    rw [hlt]
    by_cases h1 : s n < s j <;> by_cases h2 : s j = s n <;> by_cases h3 : j < n <;> simp [h1, h2, h3, IntOp.ori, IntOp.andi]
  simp only [bit]
  rw [fold_count]
  simp only [decide_eq_true_eq]
  rfl

/-- The one-hot entry: one where the score's place is `k`. -/
theorem mark (s : Fin 256 → EReal) (k : Fin 8) (n : Fin 256) :
    (FloatOps.sitofp FTy.f32 (BitVec.setWidth 32 (IntOp.cmpi CmpIPredicate.eq
      (Finset.fold IntOp.addi (0#32) (fun j : Fin 256 => BitVec.setWidth 32 (IntOp.ori (BitVec.ofBool (decide (s n < s j)))
      (IntOp.andi (BitVec.ofBool (decide (s j = s n)))
        (IntOp.cmpi CmpIPredicate.slt (BitVec.ofNat 32 j.val) (BitVec.ofNat 32 n.val))))) Finset.univ) (BitVec.ofNat 32 k.val))) : Ideal .f32)
      = if n = pick s (k.castLE (by omega)) then 1 else 0 := by
  rw [count_before, eq_number]
  have h := rank_lt s n
  simp only [ofNat_eq (show rank s n < 2 ^ 32 by omega) (show k.val < 2 ^ 32 by omega)]
  exact if_congr (rank_eq s n (k.castLE (by omega))) rfl rfl

variable (v64 : FVec Ideal S256x4 .f32) (v65 : FVec Ideal S4x256 .f32) (v70 : IVec S8x1 32) (s : Fin 4 → Fin 256 → EReal)
  (h64 : ∀ n b, v64 (ix2 n b) = s b n) (h65 : ∀ b n, v65 (ix2 b n) = s b n)
  (h70 : ∀ k : Fin 8, v70 (ix2 k 0) = BitVec.ofNat 32 k.val)
include h64 h65 h70

/-- Batch one's rows. -/
theorem hot1 (k : Fin 8) (n : Fin 256) : k0_pay14 v64 v65 k0_pay8 v70 (ix2 k n) = if n = pick (s 1) (k.castLE (by omega)) then 1 else 0 := by
  rw [← mark]
  pointwise [k0_pay14, k0_pay13, k0_pay8]
  simp only [h64, h65, h70]

/-- Batch two's rows. -/
theorem hot2 (k : Fin 8) (n : Fin 256) : k0_pay17 v64 v65 k0_pay8 v70 (ix2 k n) = if n = pick (s 2) (k.castLE (by omega)) then 1 else 0 := by
  rw [← mark]
  pointwise [k0_pay17, k0_pay16, k0_pay8]
  simp only [h64, h65, h70]

/-- Batch three's rows. -/
theorem hot3 (k : Fin 8) (n : Fin 256) :
    k0_pay23 k0_pay8 v70 (k0_pay20 v65) (k0_pay21 v64 v65) (k0_pay22 v64) (ix2 k n) = if n = pick (s 3) (k.castLE (by omega)) then 1 else 0 := by
  rw [← mark]
  pointwise [k0_pay23, k0_pay22, k0_pay21, k0_pay20, k0_pay19, k0_pay8]
  simp only [h64, h65, h70]

omit h64 h65 in
/-- Batch zero's rows; its scores are read off the first part's payloads. -/
theorem hot0 (v28 : FVec Ideal S1024x256 .f32) (v30 : FVec Ideal S4x256 .f32) (v33 : FVec Ideal S256x256 .f32)
    (v34 : FVec Ideal S1x256 .f32) (b1 : FVec Ideal S1x256 .f32) (w2 : FVec Ideal S256x1 .f32) (b2 : FVec Ideal S1x1 .f32)
    (h6 : ∀ n b, k0_pay6 v28 v30 v33 v34 b1 w2 b2 (ix2 n b) = s b n) (k : Fin 8) (n : Fin 256) :
    k0_pay11 (F := Ideal) v70 (k0_pay10 v28 v30 v33 v34 b1 w2 b2) (ix2 k n) = if n = pick (s 0) (k.castLE (by omega)) then 1 else 0 := by
  rw [← mark]
  pointwise [k0_pay11, k0_pay10, k0_pay9, k0_pay7, k0_pay8]
  simp only [h6, h70]

end Cert.KernelValue
-- ==== Proof.KernelHeads.lean ====
/-
  The kernel's second part: the rows of the top boxes, the two heads over them, and the arrays stored.
-/
module

public import proofs.«01_k».proof.Proof.Scalars
public import proofs.«01_k».proof.Proof.Gen.KernelIdeal.Frame

@[expose] public section
noncomputable section
namespace Cert.KernelValue
open Cert.KernelIdeal Cert.KernelIdeal.Gen Idealize.ShloMosaic Idealize.ShloMosaic.Pointwise Cert.Spec Cert.Scalars

/-- Four stacked pieces of eight rows, read at row `8 b + k`: piece `b`. -/
theorem stack8 {α : Type} (Y : Fin 4 → α) (q : ℕ) (b : Fin 4) (k : Fin 8) (hq : q = 8 * b.val + k.val) :
    (if q < 8 then Y 0 else if q - 8 < 8 then Y 1 else if q - 8 - 8 < 8 then Y 2 else Y 3) = Y b := by
  subst hq
  match b with
  | 0 => simp
  | 1 => simp
  | 2 =>
    have v : (2 : Fin 4).val = 2 := rfl
    rw [v, if_neg (by omega), if_neg (by omega), if_pos (by omega)]
  | 3 =>
    have v : (3 : Fin 4).val = 3 := rfl
    rw [v, if_neg (by omega), if_neg (by omega), if_neg (by omega)]

/-- The rows of the top boxes, eight for each batch. -/
theorem top_rows (v129 v149 : FVec Ideal S8x256 .f32) (v163 v166 : FVec Ideal S8x128 .f32) (v168 : FVec Ideal S256x128 .f32)
    (v170 : Vec Ideal S1x256x128 .f32) (P : Fin 4 → Fin 8 → Fin 256) (box : FVec Ideal S4x256x128 .f32)
    (h129 : ∀ k n, v129 (ix2 k n) = if n = P 2 k then 1 else 0) (h149 : ∀ k n, v149 (ix2 k n) = if n = P 3 k then 1 else 0)
    (h163 : ∀ k d, v163 (ix2 k d) = box (ix3 0 (P 0 k) d)) (h166 : ∀ k d, v166 (ix2 k d) = box (ix3 1 (P 1 k) d))
    (h168 : ∀ n d, v168 (ix2 n d) = box (ix3 2 n d)) (h170 : ∀ n d, v170 (ix3 0 n d) = box (ix3 3 n d))
    (q : Fin 32) (b : Fin 4) (k : Fin 8) (hq : q.val = 8 * b.val + k.val) (d : Fin 128) :
    k0_pay30 v129 v149 v163 v166 v168 (constant S8x128 .f32 0x00000000#32) v170 (ix2 q d) = box (ix3 b (P b k) d) := by
  obtain ⟨q, hlt⟩ := q
  obtain rfl : q = 8 * b.val + k.val := hq
  pointwise [k0_pay30]
  match b with
  | 0 => simp [h163]
  | 1 => simp [h166]
  | 2 =>
    have e : ∀ h, (⟨8 * 2 + k.val - 8 - 8, h⟩ : Fin 8) = k := fun h => Fin.ext (by simp; omega)
    have c : 8 * 2 + k.val - 8 - 8 < 8 := by omega
    simp only [Fin.val_two, show ¬ (8 * 2 + k.val < 8) by omega, show ¬ (8 * 2 + k.val - 8 < 8) by omega, c, dite_true, dite_false, e,
      h129, h168]
    exact sum_pick (fun n => n = P 2 k) _ _ fun _ => Iff.rfl
  | 3 =>
    have e : ∀ h, (⟨8 * 3 + k.val - 8 - 8 - 8, h⟩ : Fin 8) = k := fun h => Fin.ext (by simp; omega)
    have v : (3 : Fin 4).val = 3 := rfl
    simp only [v, show ¬ (8 * 3 + k.val < 8) by omega, show ¬ (8 * 3 + k.val - 8 < 8) by omega,
      show ¬ (8 * 3 + k.val - 8 - 8 < 8) by omega, dite_false, e, h149, h170]
    exact sum_pick (fun n => n = P 3 k) _ _ fun _ => Iff.rfl

/-- The similarity head over the top rows: the phrases' part of row `8 b + k` is row `b`'s. -/
theorem sim_rows (v129 v149 : FVec Ideal S8x256 .f32) (v155 : FVec Ideal S128x256 .f32) (v159 : FVec Ideal S4x256 .f32)
    (v163 v166 : FVec Ideal S8x128 .f32) (v168 : FVec Ideal S256x128 .f32) (cst : FVec Ideal S8x128 .f32)
    (v170 : Vec Ideal S1x256x128 .f32) (b1 : FVec Ideal S1x256 .f32) (w2 : FVec Ideal S256x1 .f32) (b2 : FVec Ideal S1x1 .f32)
    (q : Fin 32) (b : Fin 4) (k : Fin 8) (hq : q.val = 8 * b.val + k.val) (x : Fin 128 → EReal)
    (hx : ∀ d, k0_pay30 v129 v149 v163 v166 v168 cst v170 (ix2 q d) = x d) :
    k0_pay34 (k0_pay32 v129 v149 v155 v159 v163 v166 v168 cst v170 b1 w2) (k0_pay33 b2) (ix2 q 0)
      = (∑ j : Fin 256, leaky ((∑ d : Fin 128, x d * v155 (ix2 d j)) + v159 (ix2 b j) + b1 (ix2 0 j)) * w2 (ix2 j 0)) + b2 (ix2 0 0) := by
  have st (j : Fin 256) : (if q.val < 8 then v159 (ix2 0 j) else if q.val - 8 < 8 then v159 (ix2 1 j)
      else if q.val - 8 - 8 < 8 then v159 (ix2 2 j) else v159 (ix2 3 j)) = v159 (ix2 b j) :=
    stack8 (fun c : Fin 4 => v159 (ix2 c j)) q.val b k hq
  pointwise [k0_pay34, k0_pay33, k0_pay32]
  simp only [dite_eq_ite, st, hx]
  rfl

/-- The regression head over the top rows. -/
theorem reg_rows (v157 : FVec Ideal S128x256 .f32) (v173 : FVec Ideal S32x128 .f32) (v160 : FVec Ideal S4x256 .f32)
    (b1 : FVec Ideal S1x256 .f32) (w2 : FVec Ideal S256x6 .f32) (b2 : FVec Ideal S1x6 .f32)
    (q : Fin 32) (b : Fin 4) (k : Fin 8) (hq : q.val = 8 * b.val + k.val) (x : Fin 128 → EReal)
    (hx : ∀ d, v173 (ix2 q d) = x d) (o : Fin 6) :
    k0_pay35 v157 v173 (k0_pay31 v160) b1 w2 b2 (ix2 q o)
      = (∑ j : Fin 256, leaky ((∑ d : Fin 128, x d * v157 (ix2 d j)) + v160 (ix2 b j) + b1 (ix2 0 j)) * w2 (ix2 j o)) + b2 (ix2 0 o) := by
  have h31 (j : Fin 256) : k0_pay31 v160 (ix2 q j) = v160 (ix2 b j) := by
    pointwise [k0_pay31]
    exact stack8 (fun c : Fin 4 => v160 (ix2 c j)) q.val b k hq
  pointwise [k0_pay35]
  simp only [h31, hx]
  rfl

/-- One-hot rows gather one value: the value of the place that points at `n`, or the fill where none does. -/
theorem placed_eq (P : Fin 8 → Fin 256) (hP : Function.Injective P) (z : Fin 8 → EReal) (hot : Fin 8 → EReal) (n : Fin 256)
    (h : ∀ k, hot k = if n = P k then 1 else 0) :
    (if 0 < ∑ k : Fin 8, hot k then ∑ k : Fin 8, z k * hot k else fill) = placed P z n := by
  simp only [h]
  by_cases hn : ∃ k, n = P k
  · obtain ⟨k, rfl⟩ := hn
    have e : ∀ k', P k = P k' ↔ k' = k := fun k' => ⟨fun e => (hP e).symm, fun e => e ▸ rfl⟩
    have one : (∑ k' : Fin 8, if P k = P k' then (1 : EReal) else 0) = 1 := by
      simp only [e, Finset.sum_ite_eq', Finset.mem_univ, if_true]
    rw [one, if_pos zero_lt_one, placed_hit P hP]
    simp only [e, mul_ite, mul_one, mul_zero, Finset.sum_ite_eq', Finset.mem_univ, if_true]
  · have e : ∀ k, ¬ n = P k := fun k hk => hn ⟨k, hk⟩
    simp only [e, if_false, Finset.sum_const_zero, lt_irrefl, placed_miss P z n hn]

/-- The detection array: row `b` places the products of the heads' values with the top scores. -/
theorem det_entry (v89 : FVec Ideal S8x256 .f32) (v90 : FVec Ideal S8x1 .f32) (v109 : FVec Ideal S8x256 .f32) (v110 : FVec Ideal S8x1 .f32)
    (v129 : FVec Ideal S8x256 .f32) (v130 : FVec Ideal S8x1 .f32) (v149 : FVec Ideal S8x256 .f32) (v150 : FVec Ideal S8x1 .f32)
    (v216 : FVec Ideal S32x1 .f32) (P : Fin 4 → Fin 8 → Fin 256) (hP : ∀ b, Function.Injective (P b))
    (T Z : Fin 4 → Fin 8 → EReal)
    (h89 : ∀ k n, v89 (ix2 k n) = if n = P 0 k then 1 else 0) (h109 : ∀ k n, v109 (ix2 k n) = if n = P 1 k then 1 else 0)
    (h129 : ∀ k n, v129 (ix2 k n) = if n = P 2 k then 1 else 0) (h149 : ∀ k n, v149 (ix2 k n) = if n = P 3 k then 1 else 0)
    (h90 : ∀ k, v90 (ix2 k 0) = T 0 k) (h110 : ∀ k, v110 (ix2 k 0) = T 1 k) (h130 : ∀ k, v130 (ix2 k 0) = T 2 k)
    (h150 : ∀ k, v150 (ix2 k 0) = T 3 k)
    (h216 : ∀ (q : Fin 32) (b : Fin 4) (k : Fin 8), q.val = 8 * b.val + k.val → v216 (ix2 q 0) = Z b k) (b : Fin 4) (n : Fin 256) :
    k0_pay40 v89 v90 v109 v110 v129 v130 v149 v150 v216 (ix2 b n) = placed (P b) (fun k => Z b k * T b k) n := by
  match b with
  | 0 =>
    have e (k : Fin 8) (h) : v216 (ix2 ⟨k.val, h⟩ 0) = Z 0 k := h216 _ 0 k (by simp)
    rw [← placed_eq (P 0) (hP 0) _ (fun k => v89 (ix2 k n)) n fun k => h89 k n]
    pointwise [k0_pay40]
    simp only [h90, e]
    rfl
  | 1 =>
    have e (k : Fin 8) (h) : v216 (ix2 ⟨8 + k.val, h⟩ 0) = Z 1 k := h216 _ 1 k (by simp)
    rw [← placed_eq (P 1) (hP 1) _ (fun k => v109 (ix2 k n)) n fun k => h109 k n]
    pointwise [k0_pay40]
    simp only [h110, e]
    rfl
  | 2 =>
    have e (k : Fin 8) (h) : v216 (ix2 ⟨16 + k.val, h⟩ 0) = Z 2 k := h216 _ 2 k (by simp)
    have c1 (k : Fin 8) : ¬ (16 + k.val < 8) := by omega
    have c2 (k : Fin 8) : ¬ (16 + k.val - 8 < 8) := by omega
    have c3 (k : Fin 8) : 16 + k.val - 8 - 8 < 8 := by omega
    have i3 (k : Fin 8) (h) : (⟨16 + k.val - 8 - 8, h⟩ : Fin 8) = k := Fin.ext (by simp; omega)
    rw [← placed_eq (P 2) (hP 2) _ (fun k => v129 (ix2 k n)) n fun k => h129 k n]
    pointwise [k0_pay40]
    simp only [c1, c2, c3, dite_true, dite_false, i3, h130, e]
    rfl
  | 3 =>
    have e (k : Fin 8) (h) : v216 (ix2 ⟨24 + k.val, h⟩ 0) = Z 3 k := h216 _ 3 k (by simp)
    have c1 (k : Fin 8) : ¬ (24 + k.val < 8) := by omega
    have c2 (k : Fin 8) : ¬ (24 + k.val - 8 < 8) := by omega
    have c3 (k : Fin 8) : ¬ (24 + k.val - 8 - 8 < 8) := by omega
    have i3 (k : Fin 8) (h) : (⟨24 + k.val - 8 - 8 - 8, h⟩ : Fin 8) = k := Fin.ext (by simp; omega)
    rw [← placed_eq (P 3) (hP 3) _ (fun k => v149 (ix2 k n)) n fun k => h149 k n]
    pointwise [k0_pay40]
    simp only [c1, c2, c3, dite_false, i3, h150, e]
    rfl

end Cert.KernelValue
-- ==== Proof.KernelOut.lean ====
/-
  The kernel's three results, over any loads of its operands.
-/
module

public import proofs.«01_k».proof.Proof.KernelSim
public import proofs.«01_k».proof.Proof.KernelTop
public import proofs.«01_k».proof.Proof.KernelHeads

@[expose] public section
noncomputable section
namespace Cert.KernelValue
open Cert.KernelIdeal Cert.KernelIdeal.Gen Idealize.ShloMosaic Idealize.ShloMosaic.Pointwise Cert.Spec Cert.Scalars Cert.Rank

/-- The place's number in the row of all places. -/
abbrev place (k : Fin 8) : Fin 256 := k.castLE (by omega)

section parts
variable (v28 : FVec Ideal S1024x256 .f32) (v30 : FVec Ideal S4x256 .f32) (v33 : FVec Ideal S256x256 .f32)
  (v34 : FVec Ideal S1x256 .f32) (b1 : FVec Ideal S1x256 .f32) (w2 : FVec Ideal S256x1 .f32) (b2 : FVec Ideal S1x1 .f32)

/-- The scores, a column for each batch. -/
abbrev cols : FVec Ideal S256x4 .f32 := k0_pay6 v28 v30 v33 v34 b1 w2 b2
/-- The scores, a row for each batch. -/
abbrev rows : FVec Ideal S4x256 .f32 := k0_pay7 v28 v30 v33 v34 b1 w2 b2
/-- The places as words. -/
abbrev places : IVec S8x1 32 := iota .tc S8x1 32 [0] iota_S8x1_d0_w32
/-- Batch zero's one-hot rows. -/
abbrev hotA : FVec Ideal S8x256 .f32 := k0_pay11 places (k0_pay10 v28 v30 v33 v34 b1 w2 b2)
/-- Batch one's one-hot rows. -/
abbrev hotB : FVec Ideal S8x256 .f32 := k0_pay14 (cols v28 v30 v33 v34 b1 w2 b2) (rows v28 v30 v33 v34 b1 w2 b2) k0_pay8 places
/-- Batch two's one-hot rows. -/
abbrev hotC : FVec Ideal S8x256 .f32 := k0_pay17 (cols v28 v30 v33 v34 b1 w2 b2) (rows v28 v30 v33 v34 b1 w2 b2) k0_pay8 places
/-- Batch three's one-hot rows. -/
abbrev hotD : FVec Ideal S8x256 .f32 :=
  k0_pay23 k0_pay8 places (k0_pay20 (rows v28 v30 v33 v34 b1 w2 b2))
    (k0_pay21 (cols v28 v30 v33 v34 b1 w2 b2) (rows v28 v30 v33 v34 b1 w2 b2)) (k0_pay22 (cols v28 v30 v33 v34 b1 w2 b2))
/-- Batch zero's top scores. -/
abbrev topA : FVec Ideal S8x1 .f32 := k0_pay12 places (k0_pay9 v28 v30 v33 v34 b1 w2 b2) (k0_pay10 v28 v30 v33 v34 b1 w2 b2)
/-- Batch one's top scores. -/
abbrev topB : FVec Ideal S8x1 .f32 := k0_pay15 (cols v28 v30 v33 v34 b1 w2 b2) (rows v28 v30 v33 v34 b1 w2 b2) k0_pay8 places
/-- Batch two's top scores. -/
abbrev topC : FVec Ideal S8x1 .f32 := k0_pay18 (cols v28 v30 v33 v34 b1 w2 b2) (rows v28 v30 v33 v34 b1 w2 b2) k0_pay8 places
/-- Batch three's top scores. -/
abbrev topD : FVec Ideal S8x1 .f32 :=
  k0_pay24 k0_pay8 places (k0_pay19 (cols v28 v30 v33 v34 b1 w2 b2)) (k0_pay20 (rows v28 v30 v33 v34 b1 w2 b2))
    (k0_pay21 (cols v28 v30 v33 v34 b1 w2 b2) (rows v28 v30 v33 v34 b1 w2 b2)) (k0_pay22 (cols v28 v30 v33 v34 b1 w2 b2))

variable (x0 x1 x2 x3 : Vec Ideal S1x256x128 .f32)

/-- The rows of the top boxes, all batches. -/
abbrev topBoxes : FVec Ideal S32x128 .f32 :=
  k0_pay30 (hotC v28 v30 v33 v34 b1 w2 b2) (hotD v28 v30 v33 v34 b1 w2 b2) (k0_pay27 (hotA v28 v30 v33 v34 b1 w2 b2) x0)
    (k0_pay28 (hotB v28 v30 v33 v34 b1 w2 b2) x1) (k0_pay29 x2) (constant S8x128 .f32 0x00000000#32) x3

variable (v24 : FVec Ideal S4x768 .f32) (lo : FVec Ideal S128x256 .f32) (hi : FVec Ideal S768x256 .f32)
  (c1 : FVec Ideal S1x256 .f32) (u2 : FVec Ideal S256x1 .f32) (c2 : FVec Ideal S1x1 .f32)

/-- The similarity head's values over the top boxes. -/
abbrev topSim : FVec Ideal S32x1 .f32 :=
  k0_pay34 (k0_pay32 (hotC v28 v30 v33 v34 b1 w2 b2) (hotD v28 v30 v33 v34 b1 w2 b2) lo (k0_pay25 v24 hi)
    (k0_pay27 (hotA v28 v30 v33 v34 b1 w2 b2) x0) (k0_pay28 (hotB v28 v30 v33 v34 b1 w2 b2) x1) (k0_pay29 x2)
    (constant S8x128 .f32 0x00000000#32) x3 c1 u2) (k0_pay33 c2)

/-- The detection array as stored. -/
abbrev detOut : FVec Ideal S4x256 .f32 :=
  k0_pay40 (hotA v28 v30 v33 v34 b1 w2 b2) (topA v28 v30 v33 v34 b1 w2 b2) (hotB v28 v30 v33 v34 b1 w2 b2)
    (topB v28 v30 v33 v34 b1 w2 b2) (hotC v28 v30 v33 v34 b1 w2 b2) (topC v28 v30 v33 v34 b1 w2 b2)
    (hotD v28 v30 v33 v34 b1 w2 b2) (topD v28 v30 v33 v34 b1 w2 b2)
    (topSim v28 v30 v33 v34 b1 w2 b2 x0 x1 x2 x3 v24 lo hi c1 u2 c2)

variable (s : Fin 4 → Fin 256 → EReal) (h6 : ∀ n b, cols v28 v30 v33 v34 b1 w2 b2 (ix2 n b) = s b n)
include h6

/-- The row form of the scores. -/
theorem rows_entry (b : Fin 4) (n : Fin 256) : rows v28 v30 v33 v34 b1 w2 b2 (ix2 b n) = s b n := by
  rw [← h6]
  pointwise [rows, k0_pay7]

omit h6 in
/-- Word `k` of the places. -/
theorem places_entry (k : Fin 8) : places (ix2 k 0) = BitVec.ofNat 32 k.val := by
  pointwise [places]

/-- Row `k` of batch zero's one-hot rows marks the box at place `k`. -/
theorem hotA_entry (k : Fin 8) (n : Fin 256) :
    hotA v28 v30 v33 v34 b1 w2 b2 (ix2 k n) = if n = pick (s 0) (place k) then 1 else 0 :=
  hot0 _ s places_entry v28 v30 v33 v34 b1 w2 b2 h6 k n

/-- Row `k` of batch one's one-hot rows marks the box at place `k`. -/
theorem hotB_entry (k : Fin 8) (n : Fin 256) :
    hotB v28 v30 v33 v34 b1 w2 b2 (ix2 k n) = if n = pick (s 1) (place k) then 1 else 0 :=
  hot1 _ _ _ s h6 (rows_entry v28 v30 v33 v34 b1 w2 b2 s h6) places_entry k n

/-- Row `k` of batch two's one-hot rows marks the box at place `k`. -/
theorem hotC_entry (k : Fin 8) (n : Fin 256) :
    hotC v28 v30 v33 v34 b1 w2 b2 (ix2 k n) = if n = pick (s 2) (place k) then 1 else 0 :=
  hot2 _ _ _ s h6 (rows_entry v28 v30 v33 v34 b1 w2 b2 s h6) places_entry k n

/-- Row `k` of batch three's one-hot rows marks the box at place `k`. -/
theorem hotD_entry (k : Fin 8) (n : Fin 256) :
    hotD v28 v30 v33 v34 b1 w2 b2 (ix2 k n) = if n = pick (s 3) (place k) then 1 else 0 :=
  hot3 _ _ _ s h6 (rows_entry v28 v30 v33 v34 b1 w2 b2 s h6) places_entry k n

/-- Row `k` of batch zero's top scores is the score of the box at place `k`. -/
theorem topA_entry (k : Fin 8) : topA v28 v30 v33 v34 b1 w2 b2 (ix2 k 0) = s 0 (pick (s 0) (place k)) := by
  pointwise [topA, k0_pay12, k0_pay9]
  simp only [hotA_entry v28 v30 v33 v34 b1 w2 b2 s h6, h6]
  exact sum_pick (fun n => n = pick (s 0) (place k)) _ _ fun _ => Iff.rfl

/-- Row `k` of batch one's top scores is the score of the box at place `k`. -/
theorem topB_entry (k : Fin 8) : topB v28 v30 v33 v34 b1 w2 b2 (ix2 k 0) = s 1 (pick (s 1) (place k)) := by
  pointwise [topB, k0_pay15, k0_pay13]
  simp only [hotB_entry v28 v30 v33 v34 b1 w2 b2 s h6, h6]
  exact sum_pick (fun n => n = pick (s 1) (place k)) _ _ fun _ => Iff.rfl

/-- Row `k` of batch two's top scores is the score of the box at place `k`. -/
theorem topC_entry (k : Fin 8) : topC v28 v30 v33 v34 b1 w2 b2 (ix2 k 0) = s 2 (pick (s 2) (place k)) := by
  pointwise [topC, k0_pay18, k0_pay16]
  simp only [hotC_entry v28 v30 v33 v34 b1 w2 b2 s h6, h6]
  exact sum_pick (fun n => n = pick (s 2) (place k)) _ _ fun _ => Iff.rfl

/-- Row `k` of batch three's top scores is the score of the box at place `k`. -/
theorem topD_entry (k : Fin 8) : topD v28 v30 v33 v34 b1 w2 b2 (ix2 k 0) = s 3 (pick (s 3) (place k)) := by
  pointwise [topD, k0_pay24, k0_pay19]
  simp only [hotD_entry v28 v30 v33 v34 b1 w2 b2 s h6, h6]
  exact sum_pick (fun n => n = pick (s 3) (place k)) _ _ fun _ => Iff.rfl

variable (box : FVec Ideal S4x256x128 .f32)
  (hx0 : ∀ n d, x0 (ix3 0 n d) = box (ix3 0 n d)) (hx1 : ∀ n d, x1 (ix3 0 n d) = box (ix3 1 n d))
  (hx2 : ∀ n d, x2 (ix3 0 n d) = box (ix3 2 n d)) (hx3 : ∀ n d, x3 (ix3 0 n d) = box (ix3 3 n d))
include hx0 hx1 hx2 hx3

/-- Row `8 b + k` of the top boxes is the box at place `k` of batch `b`. -/
theorem topBoxes_entry (q : Fin 32) (b : Fin 4) (k : Fin 8) (hq : q.val = 8 * b.val + k.val) (d : Fin 128) :
    topBoxes v28 v30 v33 v34 b1 w2 b2 x0 x1 x2 x3 (ix2 q d) = box (ix3 b (pick (s b) (place k)) d) := by
  refine top_rows _ _ _ _ _ _ (fun b k => pick (s b) (place k)) box (hotC_entry v28 v30 v33 v34 b1 w2 b2 s h6)
    (hotD_entry v28 v30 v33 v34 b1 w2 b2 s h6) (fun k d => ?_) (fun k d => ?_) (fun n d => ?_) hx3 q b k hq d
  · pointwise [k0_pay27]
    simp only [hotA_entry v28 v30 v33 v34 b1 w2 b2 s h6, hx0]
    exact sum_pick (fun n => n = pick (s 0) (place k)) _ _ fun _ => Iff.rfl
  · pointwise [k0_pay28]
    simp only [hotB_entry v28 v30 v33 v34 b1 w2 b2 s h6, hx1]
    exact sum_pick (fun n => n = pick (s 1) (place k)) _ _ fun _ => Iff.rfl
  · pointwise [k0_pay29]
    exact hx2 n d

variable (y : Fin 4 → Fin 768 → EReal) (hy : ∀ b d, v24 (ix2 b d) = y b d) (W : FVec Ideal S896x256 .f32)
  (hlo : ∀ (d : Fin 128) (j : Fin 256), lo (ix2 d j) = W (ix2 (⟨d.val, lo_lt d⟩ : Fin 896) j))
  (hhi : ∀ (d : Fin 768) (j : Fin 256), hi (ix2 d j) = W (ix2 (⟨128 + d.val, hi_lt d⟩ : Fin 896) j))
include hy hlo hhi

/-- The similarity head over row `8 b + k`. -/
theorem topSim_entry (q : Fin 32) (b : Fin 4) (k : Fin 8) (hq : q.val = 8 * b.val + k.val) :
    topSim v28 v30 v33 v34 b1 w2 b2 x0 x1 x2 x3 v24 lo hi c1 u2 c2 (ix2 q 0)
      = head W (fun j => c1 (ix2 0 j)) (fun j => u2 (ix2 j 0)) (c2 (ix2 0 0))
          (fun d => box (ix3 b (pick (s b) (place k)) d)) (y b) := by
  refine (sim_rows _ _ lo _ _ _ _ _ x3 c1 u2 c2 q b k hq _
    (topBoxes_entry v28 v30 v33 v34 b1 w2 b2 x0 x1 x2 x3 s h6 box hx0 hx1 hx2 hx3 q b k hq)).trans ?_
  have h25 (j : Fin 256) : k0_pay25 v24 hi (ix2 b j) = ∑ d : Fin 768, y b d * W (ix2 (⟨128 + d.val, hi_lt d⟩ : Fin 896) j) := by
    pointwise [k0_pay25]
    simp only [hy, hhi]
  simp only [h25, hlo]
  rfl

/-- The detection array: the products of the head's values with the top scores, at the top boxes. -/
theorem detOut_entry (b : Fin 4) (n : Fin 256) :
    detOut v28 v30 v33 v34 b1 w2 b2 x0 x1 x2 x3 v24 lo hi c1 u2 c2 (ix2 b n)
      = placed (fun k => pick (s b) (place k)) (fun k =>
          head W (fun j => c1 (ix2 0 j)) (fun j => u2 (ix2 j 0)) (c2 (ix2 0 0))
            (fun d => box (ix3 b (pick (s b) (place k)) d)) (y b) * s b (pick (s b) (place k))) n :=
  det_entry _ _ _ _ _ _ _ _ _ (fun b k => pick (s b) (place k))
    (fun b k k' e => Fin.castLE_injective _ (sortedFrom_injective _ e))
    (fun b k => s b (pick (s b) (place k))) _
    (hotA_entry v28 v30 v33 v34 b1 w2 b2 s h6) (hotB_entry v28 v30 v33 v34 b1 w2 b2 s h6)
    (hotC_entry v28 v30 v33 v34 b1 w2 b2 s h6) (hotD_entry v28 v30 v33 v34 b1 w2 b2 s h6)
    (topA_entry v28 v30 v33 v34 b1 w2 b2 s h6) (topB_entry v28 v30 v33 v34 b1 w2 b2 s h6)
    (topC_entry v28 v30 v33 v34 b1 w2 b2 s h6) (topD_entry v28 v30 v33 v34 b1 w2 b2 s h6)
    (topSim_entry v28 v30 v33 v34 b1 w2 b2 x0 x1 x2 x3 v24 lo hi c1 u2 c2 s h6 box hx0 hx1 hx2 hx3 y hy W hlo hhi) b n

/-- The regression head over row `8 b + k`. -/
theorem topReg_entry (d2 : FVec Ideal S256x6 .f32) (e2 : FVec Ideal S1x6 .f32)
    (q : Fin 32) (b : Fin 4) (k : Fin 8) (hq : q.val = 8 * b.val + k.val) (o : Fin 6) :
    k0_pay35 lo (topBoxes v28 v30 v33 v34 b1 w2 b2 x0 x1 x2 x3) (k0_pay31 (k0_pay26 v24 hi)) c1 d2 e2 (ix2 q o)
      = head W (fun j => c1 (ix2 0 j)) (fun j => d2 (ix2 j o)) (e2 (ix2 0 o))
          (fun d => box (ix3 b (pick (s b) (place k)) d)) (y b) := by
  rw [reg_rows lo _ _ c1 d2 e2 q b k hq _
    (topBoxes_entry v28 v30 v33 v34 b1 w2 b2 x0 x1 x2 x3 s h6 box hx0 hx1 hx2 hx3 q b k hq)]
  have h26 (j : Fin 256) : k0_pay26 v24 hi (ix2 b j) = ∑ d : Fin 768, y b d * W (ix2 (⟨128 + d.val, hi_lt d⟩ : Fin 896) j) := by
    pointwise [k0_pay26]
    simp only [hy, hhi]
  simp only [h26, hlo]
  rfl

end parts

end Cert.KernelValue
-- ==== Proof.Results.lean ====
/-
  The three results as plain functions of the argument arrays and of the target phrase of each batch.
-/
module

public import proofs.«01_k».proof.Proof.Rank

@[expose] public section
noncomputable section
namespace Cert.Results
open Idealize.ShloMosaic Idealize.ShloMosaic.Pointwise Cert.Spec Cert.Rank

/-- The real arrays of a shape, after idealization. -/
abbrev Arr (n : ℕ) (e : Fin n → ℕ) : Type := (⟨n, e⟩ : Shape).Idx → EReal

/-- Place `k` of the first eight, as a place of the whole row. -/
abbrev place (k : Fin 8) : Fin 256 := k.castLE (by decide)

section
variable (box : Arr 3 ![4, 256, 128]) (phr : Arr 3 ![4, 25, 768])
  (W1 : Arr 2 ![896, 256]) (b1 : Arr 1 ![256]) (w1 : Arr 2 ![256, 1]) (o1 : Arr 1 ![1])
  (W2 : Arr 2 ![896, 256]) (b2 : Arr 1 ![256]) (w2 : Arr 2 ![256, 1]) (o2 : Arr 1 ![1])
  (W3 : Arr 2 ![896, 256]) (b3 : Arr 1 ![256]) (w3 : Arr 2 ![256, 6]) (o3 : Arr 1 ![6])

/-- The score of box `n` for phrase `r` in batch `b`. -/
def score (b : Fin 4) (r : Fin 25) (n : Fin 256) : EReal :=
  head W1 (fun j => b1 (ix1 j)) (fun j => w1 (ix2 j 0)) (o1 (ix1 0)) (fun d => box (ix3 b n d)) (fun d => phr (ix3 b r d))

/-- The box at place `k` when the boxes are ordered by falling score, equal scores by index. -/
def top (b : Fin 4) (r : Fin 25) (k : Fin 8) : Fin 256 := pick (score box phr W1 b1 w1 o1 b r) (place k)

/-- The fused value at place `k`: the second similarity head at the box there, times its score. -/
def fused (b : Fin 4) (r : Fin 25) (k : Fin 8) : EReal :=
  head W2 (fun j => b2 (ix1 j)) (fun j => w2 (ix2 j 0)) (o2 (ix1 0))
      (fun d => box (ix3 b (top box phr W1 b1 w1 o1 b r k) d)) (fun d => phr (ix3 b r d))
    * score box phr W1 b1 w1 o1 b r (top box phr W1 b1 w1 o1 b r k)

/-- The detection entry of box `n`: the fused value of the place the box takes, and the fill for the others. -/
def det (b : Fin 4) (r : Fin 25) (n : Fin 256) : EReal :=
  placed (top box phr W1 b1 w1 o1 b r) (fused box phr W1 b1 w1 o1 W2 b2 w2 o2 b r) n

/-- Output `o` of the box regression head at the box at place `k`. -/
def reg (b : Fin 4) (r : Fin 25) (k : Fin 8) (o : Fin 6) : EReal :=
  head W3 (fun j => b3 (ix1 j)) (fun j => w3 (ix2 j o)) (o3 (ix1 o))
    (fun d => box (ix3 b (top box phr W1 b1 w1 o1 b r k) d)) (fun d => phr (ix3 b r d))
end

/-- Two places never hold the same box. -/
theorem top_injective (box : Arr 3 ![4, 256, 128]) (phr : Arr 3 ![4, 25, 768])
    (W1 : Arr 2 ![896, 256]) (b1 : Arr 1 ![256]) (w1 : Arr 2 ![256, 1]) (o1 : Arr 1 ![1]) (b : Fin 4) (r : Fin 25) :
    Function.Injective (top box phr W1 b1 w1 o1 b r) := by
  intro k k' h
  have e := congrArg (rank (score box phr W1 b1 w1 o1 b r)) h
  unfold top at e
  rw [rank_pick, rank_pick] at e
  exact Fin.ext e

end Cert.Results
-- ==== Proof.KernelResults.lean ====
/-
  The kernel's three stored values as the problem's functions, over whatever blocks the body has loaded.
-/
module

public import proofs.«01_k».proof.Proof.KernelOut
public import proofs.«01_k».proof.Proof.Results

@[expose] public section
noncomputable section
namespace Cert.KernelValue
open Cert.KernelIdeal Cert.KernelIdeal.Gen Idealize.ShloMosaic Idealize.ShloMosaic.Pointwise Cert.Spec Cert.Scalars Cert.Rank

section
-- the loads of the first part
variable (x : Vec Ideal S4x256x128 .f32) (p : Vec Ideal S4x25x768 .f32) (t0 t1 t2 t3 : BitVec 32)
  (lo : FVec Ideal S128x256 .f32) (hi : FVec Ideal S768x256 .f32)
  (v1 : FVec Ideal S1x256 .f32) (u1 : FVec Ideal S256x1 .f32) (q1 : FVec Ideal S1x1 .f32)
-- the arrays
  (box : Results.Arr 3 ![4, 256, 128]) (phr : Results.Arr 3 ![4, 25, 768])
  (W1 : Results.Arr 2 ![896, 256]) (b1 : Results.Arr 1 ![256]) (w1 : Results.Arr 2 ![256, 1]) (o1 : Results.Arr 1 ![1])
  (r : Fin 4 → Fin 25)
  (h0 : t0 = BitVec.ofNat 32 (r 0).val) (h1 : t1 = BitVec.ofNat 32 (r 1).val)
  (h2 : t2 = BitVec.ofNat 32 (r 2).val) (h3 : t3 = BitVec.ofNat 32 (r 3).val)
  (hp : ∀ b r d, p (ix3 b r d) = phr (ix3 b r d))
include h0 h1 h2 h3

/-- The four target words, each its phrase. -/
theorem targets (b : Fin 4) : (![t0, t1, t2, t3] : Fin 4 → BitVec 32) b = BitVec.ofNat 32 (r b).val := by
  match b with
  | 0 => exact h0
  | 1 => exact h1
  | 2 => exact h2
  | 3 => exact h3

include hp

/-- The target phrases' rows, of the phrase array. -/
theorem out_phrase (b : Fin 4) (d : Fin 768) : k0_pay1 p t0 t1 t2 t3 (ix2 b d) = phr (ix3 b (r b) d) :=
  (phrase_row p ![t0, t1, t2, t3] r (targets t0 t1 t2 t3 r h0 h1 h2 h3) b d).trans (hp _ _ _)

variable (hx : ∀ b n d, x (ix3 b n d) = box (ix3 b n d))
  (hlo : ∀ (d : Fin 128) (j : Fin 256), lo (ix2 d j) = W1 (ix2 (⟨d.val, lo_lt d⟩ : Fin 896) j))
  (hhi : ∀ (d : Fin 768) (j : Fin 256), hi (ix2 d j) = W1 (ix2 (⟨128 + d.val, hi_lt d⟩ : Fin 896) j))
  (hv1 : ∀ j, v1 (ix2 0 j) = b1 (ix1 j)) (hu1 : ∀ j, u1 (ix2 j 0) = w1 (ix2 j 0)) (hq1 : q1 (ix2 0 0) = o1 (ix1 0))
include hx hlo hhi hv1 hu1 hq1

/-- The column of scores of the target phrases. -/
theorem out_cols (n : Fin 256) (b : Fin 4) :
    cols (k0_pay2 x lo) (k0_pay3 p t0 t1 t2 t3 hi) (k0_pay4 p t0 t1 t2 t3 hi) (k0_pay5 p t0 t1 t2 t3 hi) v1 u1 q1 (ix2 n b)
      = Results.score box phr W1 b1 w1 o1 b (r b) n := by
  refine (sim_entry x p ![t0, t1, t2, t3] r (targets t0 t1 t2 t3 r h0 h1 h2 h3) W1 lo hi hlo hhi v1 u1 q1 b n).trans ?_
  simp only [hv1, hu1, hq1, hx, hp]
  rfl

/-- The similarity array as stored: the scores of the target phrases. -/
theorem out_sim (b : Fin 4) (n : Fin 256) :
    k0_pay7 (k0_pay2 x lo) (k0_pay3 p t0 t1 t2 t3 hi) (k0_pay4 p t0 t1 t2 t3 hi) (k0_pay5 p t0 t1 t2 t3 hi) v1 u1 q1 (ix2 b n)
      = Results.score box phr W1 b1 w1 o1 b (r b) n :=
  rows_entry _ _ _ _ _ _ _ (fun b n => Results.score box phr W1 b1 w1 o1 b (r b) n)
    (out_cols x p t0 t1 t2 t3 lo hi v1 u1 q1 box phr W1 b1 w1 o1 r h0 h1 h2 h3 hp hx hlo hhi hv1 hu1 hq1) b n

-- the loads of the second part
variable (x0 x1 x2 x3 : Vec Ideal S1x256x128 .f32)
  (hx0 : ∀ n d, x0 (ix3 0 n d) = box (ix3 0 n d)) (hx1 : ∀ n d, x1 (ix3 0 n d) = box (ix3 1 n d))
  (hx2 : ∀ n d, x2 (ix3 0 n d) = box (ix3 2 n d)) (hx3 : ∀ n d, x3 (ix3 0 n d) = box (ix3 3 n d))
  (lo2 : FVec Ideal S128x256 .f32) (hi2 : FVec Ideal S768x256 .f32) (W2 : Results.Arr 2 ![896, 256])
  (hlo2 : ∀ (d : Fin 128) (j : Fin 256), lo2 (ix2 d j) = W2 (ix2 (⟨d.val, lo_lt d⟩ : Fin 896) j))
  (hhi2 : ∀ (d : Fin 768) (j : Fin 256), hi2 (ix2 d j) = W2 (ix2 (⟨128 + d.val, hi_lt d⟩ : Fin 896) j))
  (v2 : FVec Ideal S1x256 .f32) (b2 : Results.Arr 1 ![256]) (hv2 : ∀ j, v2 (ix2 0 j) = b2 (ix1 j))
include hx0 hx1 hx2 hx3 hlo2 hhi2 hv2

/-- The detection array as stored. -/
theorem out_det (u2 : FVec Ideal S256x1 .f32) (q2 : FVec Ideal S1x1 .f32) (w2 : Results.Arr 2 ![256, 1]) (o2 : Results.Arr 1 ![1])
    (hu2 : ∀ j, u2 (ix2 j 0) = w2 (ix2 j 0)) (hq2 : q2 (ix2 0 0) = o2 (ix1 0)) (b : Fin 4) (n : Fin 256) :
    detOut (k0_pay2 x lo) (k0_pay3 p t0 t1 t2 t3 hi) (k0_pay4 p t0 t1 t2 t3 hi) (k0_pay5 p t0 t1 t2 t3 hi) v1 u1 q1
        x0 x1 x2 x3 (k0_pay1 p t0 t1 t2 t3) lo2 hi2 v2 u2 q2 (ix2 b n)
      = Results.det box phr W1 b1 w1 o1 W2 b2 w2 o2 b (r b) n := by
  refine (detOut_entry _ _ _ _ _ _ _ x0 x1 x2 x3 _ lo2 hi2 v2 u2 q2 (fun b n => Results.score box phr W1 b1 w1 o1 b (r b) n)
    (out_cols x p t0 t1 t2 t3 lo hi v1 u1 q1 box phr W1 b1 w1 o1 r h0 h1 h2 h3 hp hx hlo hhi hv1 hu1 hq1) box hx0 hx1 hx2 hx3
    (fun b d => phr (ix3 b (r b) d)) (out_phrase p t0 t1 t2 t3 phr r h0 h1 h2 h3 hp) W2 hlo2 hhi2 b n).trans ?_
  simp only [hv2, hu2, hq2]
  rfl

/-- The regression rows before they are stored: row `8 b + k` is place `k` of batch `b`. -/
theorem out_reg (u3 : FVec Ideal S256x6 .f32) (q3 : FVec Ideal S1x6 .f32) (w3 : Results.Arr 2 ![256, 6]) (o3 : Results.Arr 1 ![6])
    (hu3 : ∀ j o, u3 (ix2 j o) = w3 (ix2 j o)) (hq3 : ∀ o, q3 (ix2 0 o) = o3 (ix1 o))
    (q : Fin 32) (b : Fin 4) (k : Fin 8) (hq : q.val = 8 * b.val + k.val) (o : Fin 6) :
    k0_pay35 lo2 (topBoxes (k0_pay2 x lo) (k0_pay3 p t0 t1 t2 t3 hi) (k0_pay4 p t0 t1 t2 t3 hi) (k0_pay5 p t0 t1 t2 t3 hi) v1 u1 q1
        x0 x1 x2 x3) (k0_pay31 (k0_pay26 (k0_pay1 p t0 t1 t2 t3) hi2)) v2 u3 q3 (ix2 q o)
      = Results.reg box phr W1 b1 w1 o1 W2 b2 w3 o3 b (r b) k o := by
  refine (topReg_entry _ _ _ _ _ _ _ x0 x1 x2 x3 _ lo2 hi2 v2 (fun b n => Results.score box phr W1 b1 w1 o1 b (r b) n)
    (out_cols x p t0 t1 t2 t3 lo hi v1 u1 q1 box phr W1 b1 w1 o1 r h0 h1 h2 h3 hp hx hlo hhi hv1 hu1 hq1) box hx0 hx1 hx2 hx3
    (fun b d => phr (ix3 b (r b) d)) (out_phrase p t0 t1 t2 t3 phr r h0 h1 h2 h3 hp) W2 hlo2 hhi2 u3 q3 q b k hq o).trans ?_
  simp only [hv2, hu3, hq3]
  rfl
end
end Cert.KernelValue
-- ==== Proof.KernelScratch.lean ====
/-
  The scratch arrays read back, and the regression rows as they are stored, a piece for each batch.
-/
module

public import proofs.«01_k».proof.Proof.KernelResults
public import Idealize.ShloMosaic.Lib.Pipeline.ValueKit
public import Idealize.ShloMosaic.Lib.Pipeline.ReadBack

@[expose] public section
noncomputable section
namespace Cert.KernelValue
open Cert.KernelIdeal Cert.KernelIdeal.Gen Idealize.ShloMosaic Idealize.ShloMosaic.Pointwise

/-- A load after one copy that filled the whole buffer reads what was copied. -/
theorem load_filled {sig : RefSig} {κ : Kind} {sp : Space} {s : Shape} {e : EltTy} {Val : EltTy → Type} [∀ e, Nonempty (Val e)]
    (v : View sig κ sp s e) (w : s.Idx → Val e) (B : LoadRect s) (j : B.shape.Idx) :
    v.readCov [⟨Rect.whole s, w⟩] B j = w (B.idx j) := by
  rw [View.readCov_eq_canon']
  have h := View.canon_cons_emb (Rect.whole s) w [] (B.idx j)
  rwa [Rect.emb_whole_apply] at h

/-- The same load through a unit rectangle, read at the coordinates' sums. -/
theorem load_filled_at {sig : RefSig} {κ : Kind} {sp : Space} {s : Shape} {e : EltTy} {Val : EltTy → Type} [∀ e, Nonempty (Val e)]
    (v : View sig κ sp s e) (w : s.Idx → Val e) (off size : Fin s.rank → ℕ) (inb) (j : (Rect.unit off size inb).shape.Idx)
    (i : s.Idx) (hi : ∀ a, (i a : ℕ) = off a + j a) : v.readCov [⟨Rect.whole s, w⟩] (Rect.unit off size inb).toLoadRect j = w i :=
  (load_filled v w _ j).trans
    (congrArg w (funext fun a => Fin.ext ((Rect.idx_unit_val off size inb j a).trans (hi a).symm)))

variable (lo : FVec Ideal S128x256 .f32) (T : FVec Ideal S32x128 .f32) (H : FVec Ideal S32x256 .f32)
  (c1 : FVec Ideal S1x256 .f32) (d2 : FVec Ideal S256x6 .f32) (e2 : FVec Ideal S1x6 .f32) (k : Fin 8) (o : Fin 6)

/-- Batch zero's piece holds the first eight rows. -/
theorem piece_zero : k0_pay36 lo T H c1 d2 e2 (ix3 0 k o) = k0_pay35 lo T H c1 d2 e2 (ix2 (⟨k.val, by omega⟩ : Fin 32) o) := by
  pointwise [k0_pay36]

/-- Batch one's piece holds the next eight rows. -/
theorem piece_one : k0_pay37 lo T H c1 d2 e2 (ix3 0 k o) = k0_pay35 lo T H c1 d2 e2 (ix2 (⟨8 + k.val, by omega⟩ : Fin 32) o) := by
  pointwise [k0_pay37]

/-- Batch two's piece holds the next eight rows. -/
theorem piece_two : k0_pay38 lo T H c1 d2 e2 (ix3 0 k o) = k0_pay35 lo T H c1 d2 e2 (ix2 (⟨16 + k.val, by omega⟩ : Fin 32) o) := by
  pointwise [k0_pay38]

/-- Batch three's piece holds the last eight rows. -/
theorem piece_three : k0_pay39 lo T H c1 d2 e2 (ix3 0 k o) = k0_pay35 lo T H c1 d2 e2 (ix2 (⟨24 + k.val, by omega⟩ : Fin 32) o) := by
  pointwise [k0_pay39]

/-- The four pieces together are the rows, eight for each batch. -/
theorem pieces (R : Fin 4 → Fin 8 → Fin 6 → EReal)
    (hR : ∀ (q : Fin 32) (b : Fin 4) (k : Fin 8) (_ : q.val = 8 * b.val + k.val) (o : Fin 6), k0_pay35 lo T H c1 d2 e2 (ix2 q o) = R b k o)
    (b : Fin 4) (k : Fin 8) (o : Fin 6) :
    View.canon (Val := Elt Ideal) (s := S4x8x6) (e := .f32)
      [⟨Rect.unit ![3, 0, 0] ![1, 8, 6] inb_S4x8x6_S1x8x6_3_0_0, k0_pay39 lo T H c1 d2 e2⟩,
       ⟨Rect.unit ![2, 0, 0] ![1, 8, 6] inb_S4x8x6_S1x8x6_2_0_0, k0_pay38 lo T H c1 d2 e2⟩,
       ⟨Rect.unit ![1, 0, 0] ![1, 8, 6] inb_S4x8x6_S1x8x6_1_0_0, k0_pay37 lo T H c1 d2 e2⟩,
       ⟨Rect.unit ![0, 0, 0] ![1, 8, 6] inb_S4x8x6_S1x8x6_0_0_0, k0_pay36 lo T H c1 d2 e2⟩] (ix3 b k o) = R b k o := by
  canon_tiles x h
  all_goals
    obtain rfl : x = ix3 0 k o := by
      funext a
      match a with
      | 0 => exact Subsingleton.elim (α := Fin 1) _ _
      | 1 => exact Fin.ext h1.symm
      | 2 => exact Fin.ext h2.symm
  case piece0 =>
    have hb : b.val = 3 := h0
    rw [piece_three, hR _ b k (by show 24 + k.val = _; omega)]
  case piece1 =>
    have hb : b.val = 2 := h0
    rw [piece_two, hR _ b k (by show 16 + k.val = _; omega)]
  case piece2 =>
    have hb : b.val = 1 := h0
    rw [piece_one, hR _ b k (by show 8 + k.val = _; omega)]
  case piece3 =>
    have hb : b.val = 0 := h0
    rw [piece_zero, hR _ b k (by show k.val = _; omega)]

end Cert.KernelValue
-- ==== Proof.KernelRead.lean ====
/-
  What the kernel leaves in its similarity array.
-/
module

public import proofs.«01_k».proof.Proof.KernelScratch
public import proofs.«01_k».proof.Proof.Gen.KernelIdeal.Value

@[expose] public section
noncomputable section
namespace Cert.KernelValue
open Cert.KernelIdeal Cert.KernelIdeal.Gen Idealize.ShloMosaic Idealize.ShloMosaic.TcCoe Idealize.ShloMosaic.Pointwise Cert.Spec Cert.Scalars Cert.Rank

variable (m : (ℓ : Loc nD τ sig) → Buf (Elt Ideal) ℓ)

/-- Every input window's one block is at the start of its array. -/
theorem idx : ∀ t : Fin cfg0.N, win0_0.index t = ![0] ∧ win0_1.index t = ![0, 0, 0] ∧ win0_2.index t = ![0, 0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] :=
  (by decide +kernel : ∀ t : Fin grid0.N, _)

/-- The similarity array after the run. -/
theorem final13 (c : Dev nD) (r : Fin 4 → Fin 25) (ht : ∀ b : Fin 4, m ((c : Thread nD τ).loc main_arg2) (ix1 b) = BitVec.ofNat 32 (r b).val)
    (G : S4x256.Idx → EReal)
    (hG : ∀ b n, G (ix2 b n) = Results.score (m ((c : Thread nD τ).loc main_arg0)) (m ((c : Thread nD τ).loc main_arg1))
      (m ((c : Thread nD τ).loc main_arg3)) (m ((c : Thread nD τ).loc main_arg4)) (m ((c : Thread nD τ).loc main_arg5))
      (m ((c : Thread nD τ).loc main_arg6)) b (r b) n) : (dats m 0 c).arrAt 13 cfg0.N = G := by
  refine (dats m 0 c).arrAt_eq_of_after_last 13 t0_0 (by decide +kernel) _ fun j => ?_
  blk_simp
  rw [after0_13]
  rw [outsAt0]
  frame_out
  simp only [read_unread_whole]
  obtain ⟨b, n, rfl⟩ : ∃ (b : Fin 4) (n : Fin 256), j = ix2 b n := ⟨j 0, j 1, ValueIdx.eq_ix2 j⟩
  refine Eq.trans ?_ (hG b n).symm
  refine out_sim _ _ _ _ _ _ _ _ _ _ _ _ _ _ _ _ _ r ?h0 ?h1 ?h2 ?h3 ?hp ?hx ?hlo ?hhi ?hv1 ?hu1 ?hq1 b n
  case h0 => refine Eq.trans ?_ (ht 0); blk_point [iblk, V, idx t0_0]
  case h1 => refine Eq.trans ?_ (ht 1); blk_point [iblk, V, idx t0_0]
  case h2 => refine Eq.trans ?_ (ht 2); blk_point [iblk, V, idx t0_0]
  case h3 => refine Eq.trans ?_ (ht 3); blk_point [iblk, V, idx t0_0]
  case hp => intro b r d; blk_point [iblk, V, idx t0_0]
  case hx => intro b n d; blk_point [iblk, V, idx t0_0]
  case hlo => intro d j; blk_point [iblk, V, idx t0_0]
  case hhi => intro d j; blk_point [iblk, V, idx t0_0]
  case hv1 => intro j; blk_point [iblk, V, idx t0_0]
  case hu1 => intro j; blk_point [iblk, V, idx t0_0]
  case hq1 => blk_point [iblk, V, idx t0_0]

end Cert.KernelValue
-- ==== Proof.KernelReadDet.lean ====
/-
  What the kernel leaves in its detection array.
-/
module

public import proofs.«01_k».proof.Proof.KernelRead

@[expose] public section
noncomputable section
namespace Cert.KernelValue
open Cert.KernelIdeal Cert.KernelIdeal.Gen Idealize.ShloMosaic Idealize.ShloMosaic.TcCoe Idealize.ShloMosaic.Pointwise Cert.Spec Cert.Scalars Cert.Rank

variable (m : (ℓ : Loc nD τ sig) → Buf (Elt Ideal) ℓ)

/-- The detection array after the run. -/
theorem final14 (c : Dev nD) (r : Fin 4 → Fin 25) (ht : ∀ b : Fin 4, m ((c : Thread nD τ).loc main_arg2) (ix1 b) = BitVec.ofNat 32 (r b).val)
    (G : S4x256.Idx → EReal)
    (hG : ∀ b n, G (ix2 b n) = Results.det (m ((c : Thread nD τ).loc main_arg0)) (m ((c : Thread nD τ).loc main_arg1))
      (m ((c : Thread nD τ).loc main_arg3)) (m ((c : Thread nD τ).loc main_arg4)) (m ((c : Thread nD τ).loc main_arg5))
      (m ((c : Thread nD τ).loc main_arg6)) (m ((c : Thread nD τ).loc main_arg11)) (m ((c : Thread nD τ).loc main_arg12))
      (m ((c : Thread nD τ).loc main_arg13)) (m ((c : Thread nD τ).loc main_arg14)) b (r b) n) : (dats m 0 c).arrAt 14 cfg0.N = G := by
  refine (dats m 0 c).arrAt_eq_of_after_last 14 t0_0 (by decide +kernel) _ fun j => ?_
  blk_simp
  rw [after0_14]
  rw [outsAt0]
  frame_out
  simp only [read_unread_whole]
  obtain ⟨b, n, rfl⟩ : ∃ (b : Fin 4) (n : Fin 256), j = ix2 b n := ⟨j 0, j 1, ValueIdx.eq_ix2 j⟩
  refine Eq.trans ?_ (hG b n).symm
  refine out_det _ _ _ _ _ _ _ _ _ _ _ _ _ _ _ _ _ r ?h0 ?h1 ?h2 ?h3 ?hp ?hx ?hlo ?hhi ?hv1 ?hu1 ?hq1
    _ _ _ _ ?hx0 ?hx1 ?hx2 ?hx3 _ _ _ ?hlo2 ?hhi2 _ _ ?hv2 _ _ _ _ ?hu2 ?hq2 b n
  case h0 => refine Eq.trans ?_ (ht 0); blk_point [iblk, V, idx t0_0]
  case h1 => refine Eq.trans ?_ (ht 1); blk_point [iblk, V, idx t0_0]
  case h2 => refine Eq.trans ?_ (ht 2); blk_point [iblk, V, idx t0_0]
  case h3 => refine Eq.trans ?_ (ht 3); blk_point [iblk, V, idx t0_0]
  case hp => intro b r d; blk_point [iblk, V, idx t0_0]
  case hx => intro b n d; blk_point [iblk, V, idx t0_0]
  case hlo => intro d j; blk_point [iblk, V, idx t0_0]
  case hhi => intro d j; blk_point [iblk, V, idx t0_0]
  case hv1 => intro j; blk_point [iblk, V, idx t0_0]
  case hu1 => intro j; blk_point [iblk, V, idx t0_0]
  case hq1 => blk_point [iblk, V, idx t0_0]
  case hx0 => intro n d; blk_point [iblk, V, idx t0_0]
  case hx1 => intro n d; blk_point [iblk, V, idx t0_0]
  case hx2 => intro n d; blk_point [iblk, V, idx t0_0]
  case hx3 => intro n d; blk_point [iblk, V, idx t0_0]
  case hlo2 =>
    intro d j
    refine (load_filled_at _ _ _ _ _ _ (ix2 (⟨d.val, lo_lt d⟩ : Fin 896) j) (Fin.forall_fin_two.2 ⟨(Nat.zero_add _).symm, (Nat.zero_add _).symm⟩)).trans ?_
    blk_point [V]
  case hhi2 =>
    intro d j
    refine (load_filled_at _ _ _ _ _ _ (ix2 (⟨128 + d.val, hi_lt d⟩ : Fin 896) j) (Fin.forall_fin_two.2 ⟨rfl, (Nat.zero_add _).symm⟩)).trans ?_
    blk_point [V]
  case hv2 => intro j; blk_point [iblk, V, idx t0_0]
  case hu2 => intro j; blk_point [iblk, V, idx t0_0]
  case hq2 => blk_point [iblk, V, idx t0_0]

end Cert.KernelValue
-- ==== Proof.KernelReadReg.lean ====
/-
  What the kernel leaves in its regression array.
-/
module

public import proofs.«01_k».proof.Proof.KernelRead

@[expose] public section
noncomputable section
namespace Cert.KernelValue
open Cert.KernelIdeal Cert.KernelIdeal.Gen Idealize.ShloMosaic Idealize.ShloMosaic.TcCoe Idealize.ShloMosaic.Pointwise Cert.Spec Cert.Scalars Cert.Rank

variable (m : (ℓ : Loc nD τ sig) → Buf (Elt Ideal) ℓ)

/-- The regression array after the run. -/
theorem final15 (c : Dev nD) (r : Fin 4 → Fin 25) (ht : ∀ b : Fin 4, m ((c : Thread nD τ).loc main_arg2) (ix1 b) = BitVec.ofNat 32 (r b).val)
    (G : S4x8x6.Idx → EReal)
    (hG : ∀ b k o, G (ix3 b k o) = Results.reg (m ((c : Thread nD τ).loc main_arg0)) (m ((c : Thread nD τ).loc main_arg1))
      (m ((c : Thread nD τ).loc main_arg3)) (m ((c : Thread nD τ).loc main_arg4)) (m ((c : Thread nD τ).loc main_arg5))
      (m ((c : Thread nD τ).loc main_arg6)) (m ((c : Thread nD τ).loc main_arg15)) (m ((c : Thread nD τ).loc main_arg16))
      (m ((c : Thread nD τ).loc main_arg17)) (m ((c : Thread nD τ).loc main_arg18)) b (r b) k o) : (dats m 0 c).arrAt 15 cfg0.N = G := by
  refine (dats m 0 c).arrAt_eq_of_after_last 15 t0_0 (by decide +kernel) _ fun j => ?_
  blk_simp
  rw [after0_15]
  rw [outsAt0]
  frame_out
  simp only [read_unread_whole]
  obtain ⟨b, k, o, rfl⟩ : ∃ (b : Fin 4) (k : Fin 8) (o : Fin 6), j = ix3 b k o := ⟨j 0, j 1, j 2, ValueIdx.eq_ix3 j⟩
  refine Eq.trans ?_ (hG b k o).symm
  refine pieces _ _ _ _ _ _ (fun b k o => Results.reg _ _ _ _ _ _ _ _ _ _ b (r b) k o) (fun q b k hq o => ?_) b k o
  refine out_reg _ _ _ _ _ _ _ _ _ _ _ _ _ _ _ _ _ r ?h0 ?h1 ?h2 ?h3 ?hp ?hx ?hlo ?hhi ?hv1 ?hu1 ?hq1
    _ _ _ _ ?hx0 ?hx1 ?hx2 ?hx3 _ _ _ ?hlo2 ?hhi2 _ _ ?hv2 _ _ _ _ ?hu2 ?hq2 q b k hq o
  case h0 => refine Eq.trans ?_ (ht 0); blk_point [iblk, V, idx t0_0]
  case h1 => refine Eq.trans ?_ (ht 1); blk_point [iblk, V, idx t0_0]
  case h2 => refine Eq.trans ?_ (ht 2); blk_point [iblk, V, idx t0_0]
  case h3 => refine Eq.trans ?_ (ht 3); blk_point [iblk, V, idx t0_0]
  case hp => intro b r d; blk_point [iblk, V, idx t0_0]
  case hx => intro b n d; blk_point [iblk, V, idx t0_0]
  case hlo => intro d j; blk_point [iblk, V, idx t0_0]
  case hhi => intro d j; blk_point [iblk, V, idx t0_0]
  case hv1 => intro j; blk_point [iblk, V, idx t0_0]
  case hu1 => intro j; blk_point [iblk, V, idx t0_0]
  case hq1 => blk_point [iblk, V, idx t0_0]
  case hx0 => intro n d; blk_point [iblk, V, idx t0_0]
  case hx1 => intro n d; blk_point [iblk, V, idx t0_0]
  case hx2 => intro n d; blk_point [iblk, V, idx t0_0]
  case hx3 => intro n d; blk_point [iblk, V, idx t0_0]
  case hlo2 =>
    intro d j
    refine (load_filled_at _ _ _ _ _ _ (ix2 (⟨d.val, lo_lt d⟩ : Fin 896) j) (Fin.forall_fin_two.2 ⟨(Nat.zero_add _).symm, (Nat.zero_add _).symm⟩)).trans ?_
    blk_point [V]
  case hhi2 =>
    intro d j
    refine (load_filled_at _ _ _ _ _ _ (ix2 (⟨128 + d.val, hi_lt d⟩ : Fin 896) j) (Fin.forall_fin_two.2 ⟨rfl, (Nat.zero_add _).symm⟩)).trans ?_
    blk_point [V]
  case hv2 => intro j; blk_point [iblk, V, idx t0_0]
  case hu2 => intro j o; blk_point [iblk, V, idx t0_0]
  case hq2 => intro o; blk_point [iblk, V, idx t0_0]

end Cert.KernelValue
-- ==== Proof.RefGather.lean ====
/-
  The reference's gathers read at an index, where the start indices are in range.
-/
module

public import proofs.«01_k».proof.Proof.Scalars
public import proofs.«01_k».proof.Proof.Gen.ReferenceIdeal.Run
public import Idealize.ShloMosaic.Lib.StableHlo.Predicate

@[expose] public section
noncomputable section
namespace Cert.RefValue
open Cert.ReferenceIdeal Cert.ReferenceIdeal.Gen Idealize.ShloMosaic Idealize.ShloMosaic.Pointwise Cert.Scalars

/-- A small word read signed and clamped to a bound it does not pass is the number it holds. -/
theorem clamp_small (v hi : ℕ) (hv : v ≤ hi) (hh : hi < 2 ^ 31) : min (BitVec.ofNat 32 v).toInt.toNat hi = v := by
  rw [StableHlo.Predicate.toInt_ofNat_small v (by omega), Int.toNat_natCast, Nat.min_eq_left hv]

/-- The row of batch `b` at the target, out of an array over batch, phrase and box. -/
theorem gather_scores {α : Type} (x : S4x25x256.Idx → α) (idx : IVec S4x2 32) (b : Fin 4) (r : Fin 25) (n : Fin 256)
    (h0 : idx (ix2 b 0) = BitVec.ofNat 32 b.val) (h1 : idx (ix2 b 1) = BitVec.ofNat 32 r.val) :
    Host.gather gather_S4x25x256_S4x2_S4x256_1_01_n_n_01_1_11256 x idx (ix2 b n) = x (ix3 b r n) := by
  unfold Host.gather
  congr 1
  funext a
  apply Fin.ext
  have i0 : gather_S4x25x256_S4x2_S4x256_1_01_n_n_01_1_11256.siIdx (ix2 b n) ⟨0, by decide⟩ = ix2 b 0 := by
    funext a
    match a with
    | 0 => rfl
    | 1 => rfl
  have i1 : gather_S4x25x256_S4x2_S4x256_1_01_n_n_01_1_11256.siIdx (ix2 b n) ⟨1, by decide⟩ = ix2 b 1 := by
    funext a
    match a with
    | 0 => rfl
    | 1 => rfl
  match a with
  | 0 =>
    show min (idx (gather_S4x25x256_S4x2_S4x256_1_01_n_n_01_1_11256.siIdx (ix2 b n) ⟨0, by decide⟩)).toInt.toNat 3 + 0 + 0 = b.val
    rw [i0, h0, clamp_small _ _ (by omega) (by omega)]
    rfl
  | 1 =>
    show min (idx (gather_S4x25x256_S4x2_S4x256_1_01_n_n_01_1_11256.siIdx (ix2 b n) ⟨1, by decide⟩)).toInt.toNat 24 + 0 + 0 = r.val
    rw [i1, h1, clamp_small _ _ (by omega) (by omega)]
    rfl
  | 2 =>
    show 0 + 0 + n.val = n.val
    omega

/-- The row of batch `b` at the target, out of an array over batch, phrase and place. -/
theorem gather_places {α : Type} (x : S4x25x8.Idx → α) (idx : IVec S4x2 32) (b : Fin 4) (r : Fin 25) (k : Fin 8)
    (h0 : idx (ix2 b 0) = BitVec.ofNat 32 b.val) (h1 : idx (ix2 b 1) = BitVec.ofNat 32 r.val) :
    Host.gather gather_S4x25x8_S4x2_S4x8_1_01_n_n_01_1_118 x idx (ix2 b k) = x (ix3 b r k) := by
  unfold Host.gather
  congr 1
  funext a
  apply Fin.ext
  have i0 : gather_S4x25x8_S4x2_S4x8_1_01_n_n_01_1_118.siIdx (ix2 b k) ⟨0, by decide⟩ = ix2 b 0 := by
    funext a
    match a with
    | 0 => rfl
    | 1 => rfl
  have i1 : gather_S4x25x8_S4x2_S4x8_1_01_n_n_01_1_118.siIdx (ix2 b k) ⟨1, by decide⟩ = ix2 b 1 := by
    funext a
    match a with
    | 0 => rfl
    | 1 => rfl
  match a with
  | 0 =>
    show min (idx (gather_S4x25x8_S4x2_S4x8_1_01_n_n_01_1_118.siIdx (ix2 b k) ⟨0, by decide⟩)).toInt.toNat 3 + 0 + 0 = b.val
    rw [i0, h0, clamp_small _ _ (by omega) (by omega)]
    rfl
  | 1 =>
    show min (idx (gather_S4x25x8_S4x2_S4x8_1_01_n_n_01_1_118.siIdx (ix2 b k) ⟨1, by decide⟩)).toInt.toNat 24 + 0 + 0 = r.val
    rw [i1, h1, clamp_small _ _ (by omega) (by omega)]
    rfl
  | 2 =>
    show 0 + 0 + k.val = k.val
    omega

/-- The slab of batch `b` at the target, out of an array over batch, phrase, place and output. -/
theorem gather_regs {α : Type} (x : S4x25x8x6.Idx → α) (idx : IVec S4x2 32) (b : Fin 4) (r : Fin 25) (k : Fin 8) (o : Fin 6)
    (h0 : idx (ix2 b 0) = BitVec.ofNat 32 b.val) (h1 : idx (ix2 b 1) = BitVec.ofNat 32 r.val) :
    Host.gather gather_S4x25x8x6_S4x2_S4x8x6_12_01_n_n_01_1_1186 x idx (ix3 b k o) = x (ix4 b r k o) := by
  unfold Host.gather
  congr 1
  funext a
  apply Fin.ext
  have i0 : gather_S4x25x8x6_S4x2_S4x8x6_12_01_n_n_01_1_1186.siIdx (ix3 b k o) ⟨0, by decide⟩ = ix2 b 0 := by
    funext a
    match a with
    | 0 => rfl
    | 1 => rfl
  have i1 : gather_S4x25x8x6_S4x2_S4x8x6_12_01_n_n_01_1_1186.siIdx (ix3 b k o) ⟨1, by decide⟩ = ix2 b 1 := by
    funext a
    match a with
    | 0 => rfl
    | 1 => rfl
  match a with
  | 0 =>
    show min (idx (gather_S4x25x8x6_S4x2_S4x8x6_12_01_n_n_01_1_1186.siIdx (ix3 b k o) ⟨0, by decide⟩)).toInt.toNat 3 + 0 + 0 = b.val
    rw [i0, h0, clamp_small _ _ (by omega) (by omega)]
    rfl
  | 1 =>
    show min (idx (gather_S4x25x8x6_S4x2_S4x8x6_12_01_n_n_01_1_1186.siIdx (ix3 b k o) ⟨1, by decide⟩)).toInt.toNat 24 + 0 + 0 = r.val
    rw [i1, h1, clamp_small _ _ (by omega) (by omega)]
    rfl
  | 2 =>
    show 0 + 0 + k.val = k.val
    omega
  | 3 =>
    show 0 + 0 + o.val = o.val
    omega

/-- A box of a batch and phrase, by the word that names it. -/
theorem gather_box {α : Type} (x : S4x25x256x128.Idx → α) (idx : IVec S4x25x8x1 32) (b : Fin 4) (r : Fin 25) (k : Fin 8) (d : Fin 128)
    (n : Fin 256) (h : idx (ix4 b r k 0) = BitVec.ofNat 32 n.val) :
    Host.gather gather_S4x25x256x128_S4x25x8x1_S4x25x8x128_3_2_01_01_2_3_111128 x idx (ix4 b r k d) = x (ix4 b r n d) := by
  unfold Host.gather
  congr 1
  funext a
  apply Fin.ext
  have i0 : gather_S4x25x256x128_S4x25x8x1_S4x25x8x128_3_2_01_01_2_3_111128.siIdx (ix4 b r k d) ⟨0, by decide⟩ = ix4 b r k 0 := by
    funext a
    match a with
    | 0 => rfl
    | 1 => rfl
    | 2 => rfl
    | 3 => rfl
  match a with
  | 0 =>
    show 0 + b.val + 0 = b.val
    omega
  | 1 =>
    show 0 + r.val + 0 = r.val
    omega
  | 2 =>
    show min (idx (gather_S4x25x256x128_S4x25x8x1_S4x25x8x128_3_2_01_01_2_3_111128.siIdx (ix4 b r k d) ⟨0, by decide⟩)).toInt.toNat 255 + 0 + 0 = n.val
    rw [i0, h, clamp_small _ _ (by omega) (by omega)]
    rfl
  | 3 =>
    show 0 + 0 + d.val = d.val
    omega

end Cert.RefValue
-- ==== Proof.RefTop.lean ====
/-
  The reference's top-k: at place `k` the box the stable sort by falling score puts there, and its score.
-/
module

public import proofs.«01_k».proof.Proof.Rank
public import proofs.«01_k».proof.Proof.Gen.ReferenceIdeal.Run

@[expose] public section
noncomputable section
namespace Cert.RefValue
open Cert.ReferenceIdeal Cert.ReferenceIdeal.Gen Idealize.ShloMosaic Idealize.ShloMosaic.Pointwise Cert.Rank

/-- Moving along the last axis of a rank-three array replaces the last coordinate. -/
theorem along_last (b : Fin 4) (r : Fin 25) (q n : Fin 256) :
    Shape.Idx.along (s := S4x25x256) (ix3 b r q) (2 : Fin 3) n = ix3 b r n := by
  funext a
  match a with
  | 0 => rfl
  | 1 => rfl
  | 2 => rfl

/-- The permutation the sort applies to the scores of a batch and phrase. -/
theorem sort_perm (x : S4x25x256.Idx → Ideal .f32) (b : Fin 4) (r : Fin 25) (q : Fin 256) :
    sortedFrom (fun k k' : Fin 256 => FloatOps.cmpfTotal (F := Ideal) (φ := .f32) .gt
        (x (Shape.Idx.along (s := S4x25x256) (ix3 b r q) (2 : Fin 3) k))
        (x (Shape.Idx.along (s := S4x25x256) (ix3 b r q) (2 : Fin 3) k')) == 1#1) q
      = pick (fun n => x (ix3 b r n)) q := by
  simp only [along_last]
  rw [← sortedFrom_score]
  congr 1
  funext k k'
  show (BitVec.ofBool (decide (x (ix3 b r k') < x (ix3 b r k))) == 1#1) = decide (x (ix3 b r k') < x (ix3 b r k))
  cases decide (x (ix3 b r k') < x (ix3 b r k)) <;> rfl

/-- The scores sorted, read at place `q`. -/
theorem sort_value (x : S4x25x256.Idx → Ideal .f32) (y : IVec S4x25x256 32) (b : Fin 4) (r : Fin 25) (q : Fin 256) :
    (Host.sort2 S4x25x256 2 (fun l r => FloatOps.cmpfTotal (F := Ideal) (φ := .f32) .gt l.1 r.1) x y).1 (ix3 b r q)
      = x (ix3 b r (pick (fun n => x (ix3 b r n)) q)) := by
  unfold Host.sort2
  rw [dif_pos (by decide)]
  dsimp only
  exact (congrArg x (along_last b r q _)).trans (congrArg (fun n => x (ix3 b r n)) (sort_perm x b r q))

/-- An array carried along the sort of the scores, read at place `q`. -/
theorem sort_carried (x : S4x25x256.Idx → Ideal .f32) (y : IVec S4x25x256 32) (b : Fin 4) (r : Fin 25) (q : Fin 256) :
    (Host.sort2 S4x25x256 2 (fun l r => FloatOps.cmpfTotal (F := Ideal) (φ := .f32) .gt l.1 r.1) x y).2 (ix3 b r q)
      = y (ix3 b r (pick (fun n => x (ix3 b r n)) q)) := by
  unfold Host.sort2
  rw [dif_pos (by decide)]
  dsimp only
  exact (congrArg y (along_last b r q _)).trans (congrArg (fun n => y (ix3 b r n)) (sort_perm x b r q))

/-- The slice at the start of the last axis reads the same coordinates. -/
theorem slice_start {α : Type} (z : S4x25x256.Idx → α) (b : Fin 4) (r : Fin 25) (k : Fin 8) :
    extractStridedSlice S4x25x8 (fun _ => 0) z sliceFits_S4x25x256_S4x25x8 (ix3 b r k) = z (ix3 b r (k.castLE (by decide))) := by
  unfold extractStridedSlice
  congr 1
  funext a
  match a with
  | 0 => exact Fin.ext (Nat.zero_add _)
  | 1 => exact Fin.ext (Nat.zero_add _)
  | 2 => exact Fin.ext (Nat.zero_add _)

/-- The score at place `k` is the score of the box picked there. -/
theorem top_value (x : S4x25x256.Idx → Ideal .f32) (b : Fin 4) (r : Fin 25) (k : Fin 8) :
    (Host.topK S4x25x8 2 (FloatOps.cmpfTotal .gt) x sliceFits_S4x25x256_S4x25x8).1 (ix3 b r k)
      = x (ix3 b r (pick (fun n => x (ix3 b r n)) (k.castLE (by decide)))) := by
  unfold Host.topK
  dsimp only
  exact (slice_start _ b r k).trans (sort_value x _ b r _)

/-- The index at place `k` is the box picked there. -/
theorem top_index (x : S4x25x256.Idx → Ideal .f32) (b : Fin 4) (r : Fin 25) (k : Fin 8) :
    (Host.topK S4x25x8 2 (FloatOps.cmpfTotal .gt) x sliceFits_S4x25x256_S4x25x8).2 (ix3 b r k)
      = BitVec.ofNat 32 (pick (fun n => x (ix3 b r n)) (k.castLE (by decide))).val := by
  unfold Host.topK
  dsimp only
  exact (slice_start _ b r k).trans (sort_carried x _ b r _)

end Cert.RefValue
-- ==== Proof.RefHeads.lean ====
/-
  The reference's heads at an index: the scores of all pairs, and the two heads over the top boxes.
-/
module

public import proofs.«01_k».proof.Proof.Results
public import proofs.«01_k».proof.Proof.Scalars
public import proofs.«01_k».proof.Proof.RefGather
public import proofs.«01_k».proof.Proof.RefTop

@[expose] public section
noncomputable section
namespace Cert.RefValue
open Cert.ReferenceIdeal Cert.ReferenceIdeal.Gen Cert.ReferenceIdeal.Value Idealize.ShloMosaic Idealize.ShloMosaic.Pointwise Cert.Spec Cert.Scalars Cert.Rank

variable (V0 : Valuation τ sig (Elt Ideal))

/-- The score of box `n` for phrase `r` in batch `b`, of the launch's arrays. -/
abbrev score (b : Fin 4) (r : Fin 25) (n : Fin 256) : EReal :=
  Results.score (V0 (Proc.devRef .tc main_arg0)) (V0 (Proc.devRef .tc main_arg1)) (V0 (Proc.devRef .tc main_arg3))
    (V0 (Proc.devRef .tc main_arg4)) (V0 (Proc.devRef .tc main_arg5)) (V0 (Proc.devRef .tc main_arg6)) b r n

/-- The box at place `k` for phrase `r` in batch `b`, of the launch's arrays. -/
abbrev top (b : Fin 4) (r : Fin 25) (k : Fin 8) : Fin 256 :=
  Results.top (V0 (Proc.devRef .tc main_arg0)) (V0 (Proc.devRef .tc main_arg1)) (V0 (Proc.devRef .tc main_arg3))
    (V0 (Proc.devRef .tc main_arg4)) (V0 (Proc.devRef .tc main_arg5)) (V0 (Proc.devRef .tc main_arg6)) b r k

/-- The reference's first head is the score. -/
theorem ref_score (b : Fin 4) (r : Fin 25) (n : Fin 256) : res_main_v18 V0 (ix3 b r n) = score V0 b r n := by
  unfold score Results.score head hid leaky lowSlope
  pointwise [res_main_v18, res_main_v8, res_main_v4, res_main_v1]

/-- The reference's index at place `k`. -/
theorem ref_index (b : Fin 4) (r : Fin 25) (k : Fin 8) :
    res_main_indices V0 (ix3 b r k) = BitVec.ofNat 32 (top V0 b r k).val := by
  unfold res_main_indices
  rw [top_index]
  simp only [ref_score]
  rfl

/-- The reference's score at place `k`. -/
theorem ref_top_score (b : Fin 4) (r : Fin 25) (k : Fin 8) :
    (Host.topK S4x25x8 2 (FloatOps.cmpfTotal .gt) (res_main_v18 V0) sliceFits_S4x25x256_S4x25x8).1 (ix3 b r k)
      = score V0 b r (top V0 b r k) := by
  rw [top_value]
  simp only [ref_score]
  rfl

/-- A small word is not negative, so wrapping a negative index leaves it. -/
theorem wrap_small (n : ℕ) (hn : n < 2 ^ 31) (w : BitVec 32) :
    Scalar.select (IntOp.cmpi .slt (BitVec.ofNat 32 n) 0#32) w (BitVec.ofNat 32 n) = BitVec.ofNat 32 n := by
  have h : IntOp.cmpi .slt (BitVec.ofNat 32 n) 0#32 = 0#1 := by
    show BitVec.ofBool ((BitVec.ofNat 32 n).slt 0#32) = 0#1
    have : (BitVec.ofNat 32 n).slt 0#32 = false := by
      rw [BitVec.slt, StableHlo.Predicate.toInt_ofNat_small n hn]
      simp
    rw [this]; rfl
  rw [h]
  rfl

/-- The wrapped index is the index. -/
theorem ref_wrapped (b : Fin 4) (r : Fin 25) (k : Fin 8) :
    res_main_call2_v4 V0 (ix4 b r k 0) = BitVec.ofNat 32 (top V0 b r k).val := by
  pointwise [res_main_call2_v4, res_main_v32]
  rw [ref_index]
  exact wrap_small _ (by omega) _

/-- Bits that are all set, taken together, are set. -/
theorem fold_ones {ι : Type} (S : Finset ι) (f : ι → BitVec 1) (h : ∀ x ∈ S, f x = 1#1) : Finset.fold IntOp.andi 1#1 f S = 1#1 := by
  classical
  induction S using Finset.induction_on with
  | empty => rfl
  | insert a S ha ih =>
    rw [Finset.fold_insert ha, h a (Finset.mem_insert_self a S), ih fun x hx => h x (Finset.mem_insert_of_mem hx)]
    rfl

/-- An index of a box lies in the range the reference tests. -/
theorem in_range (n : Fin 256) :
    IntOp.andi (IntOp.cmpi .sge (BitVec.ofNat 32 n.val) 0#32) (IntOp.cmpi .sle (BitVec.ofNat 32 n.val) 255#32) = 1#1 := by
  revert n
  decide

/-- A word of the wrapped indices, at any index of that array. -/
theorem ref_wrapped_at (x : S4x25x8x1.Idx) : ∃ n : Fin 256, res_main_call2_v4 V0 x = BitVec.ofNat 32 n.val := by
  have e : x = ix4 (x 0 : Fin 4) (x 1 : Fin 25) (x 2 : Fin 8) 0 := by
    funext a
    match a with
    | 0 => rfl
    | 1 => rfl
    | 2 => rfl
    | 3 => exact Subsingleton.elim (α := Fin 1) _ _
  exact ⟨_, e ▸ ref_wrapped V0 _ _ _⟩

/-- The gathered features: the box at place `k`, then the phrase. -/
theorem ref_pair (b : Fin 4) (r : Fin 25) (k : Fin 8) (d : Fin 896) :
    res_main_v36 V0 (ix4 b r k d) = (if h : d.val < 128 then V0 (Proc.devRef .tc main_arg0) (ix3 b (top V0 b r k) ⟨d.val, h⟩)
      else V0 (Proc.devRef .tc main_arg1) (ix3 b r ⟨d.val - 128, by omega⟩) : EReal) := by
  pointwise [res_main_v36]
  split
  · rw [fold_ones _ _ fun x _ => by
      obtain ⟨n, hn⟩ := ref_wrapped_at V0 x
      simp only [hn]
      exact in_range n]
    rw [gather_box _ _ b r k _ _ (ref_wrapped V0 b r k)]
    pointwise [res_main_v1]
  · rfl

end Cert.RefValue
-- ==== Proof.RefOut.lean ====
/-
  The reference's three results at an index, as the problem's functions of the argument arrays.
-/
module

public import proofs.«01_k».proof.Proof.RefHeads
public import Idealize.ShloMosaic.Lib.ScatterToDense.RefScatter

@[expose] public section
noncomputable section
namespace Cert.RefValue
open Cert.ReferenceIdeal Cert.ReferenceIdeal.Gen Cert.ReferenceIdeal.Value Idealize.ShloMosaic Idealize.ShloMosaic.Pointwise Cert.Spec Cert.Scalars Cert.Rank

variable (V0 : Valuation τ sig (Elt Ideal))

/-- The hidden layer of the second similarity head at place `k`. -/
theorem ref_hidden_sim (b : Fin 4) (r : Fin 25) (k : Fin 8) (j : Fin 256) :
    res_main_v40 V0 (ix4 b r k j) = hid (V0 (Proc.devRef .tc main_arg11)) (fun j => V0 (Proc.devRef .tc main_arg12) (ix1 j))
      (fun d => V0 (Proc.devRef .tc main_arg0) (ix3 b (top V0 b r k) d)) (fun d => V0 (Proc.devRef .tc main_arg1) (ix3 b r d)) j := by
  unfold hid
  pointwise [res_main_v40, ref_pair]

/-- The hidden layer of the box regression head at place `k`. -/
theorem ref_hidden_reg (b : Fin 4) (r : Fin 25) (k : Fin 8) (j : Fin 256) :
    res_main_v54 V0 (ix4 b r k j) = hid (V0 (Proc.devRef .tc main_arg15)) (fun j => V0 (Proc.devRef .tc main_arg16) (ix1 j))
      (fun d => V0 (Proc.devRef .tc main_arg0) (ix3 b (top V0 b r k) d)) (fun d => V0 (Proc.devRef .tc main_arg1) (ix3 b r d)) j := by
  unfold hid
  pointwise [res_main_v54, ref_pair]

/-- The start indices the reference gathers its results with: the batch, and its target phrase. -/
abbrev starts : IVec S4x2 32 := concatenate S4x2 1 [⟨S4x1, (broadcastInDim S4x1 ![0] bcast_S4_S4x1_0 (select (cmpi .slt (res_main_v65 V0) (broadcastInDim S4 ![] bcast_S_S4 (constantI S_ 32 0#32))) (addi (res_main_v65 V0) (broadcastInDim S4 ![] bcast_S_S4 (constantI S_ 32 4#32))) (res_main_v65 V0)))⟩, ⟨S4x1, (broadcastInDim S4x1 ![0] bcast_S4_S4x1_0 (select (cmpi .slt (V0 (Proc.devRef .tc main_arg2)) (broadcastInDim S4 ![] bcast_S_S4 (constantI S_ 32 0#32))) (addi (V0 (Proc.devRef .tc main_arg2)) (broadcastInDim S4 ![] bcast_S_S4 (constantI S_ 32 25#32))) (V0 (Proc.devRef .tc main_arg2))))⟩] concatenates_S4x1_S4x1_S4x2_d1

/-- The first start index is the batch. -/
theorem starts_batch (b : Fin 4) : starts V0 (ix2 b 0) = BitVec.ofNat 32 b.val := by
  pointwise [starts, res_main_v65]
  exact wrap_small _ (by omega) _

/-- The second start index is the target phrase. -/
theorem starts_target (r : Fin 4 → Fin 25) (ht : ∀ b : Fin 4, V0 (Proc.devRef .tc main_arg2) (ix1 b) = BitVec.ofNat 32 (r b).val) (b : Fin 4) :
    starts V0 (ix2 b 1) = BitVec.ofNat 32 (r b).val := by
  pointwise [starts]
  rw [ht]
  exact wrap_small _ (by omega) _

/-- Updates at distinct indices, one after the other over the fill: the value of the place that points there. -/
theorem last_hit (P : Fin 8 → Fin 256) (hP : Function.Injective P) (z : Fin 8 → EReal) (word : ℕ → BitVec 32) (val : ℕ → EReal)
    (hw : ∀ k : Fin 8, word k.val = BitVec.ofNat 32 (P k).val) (hv : ∀ k : Fin 8, val k.val = z k) (n : Fin 256) :
    ScatterToDense.GS word val fill n.val 8 = placed P z n := by
  have hword (k : Fin 8) : n.val = (word k.val).toNat ↔ n = P k := by
    rw [hw, BitVec.toNat_ofNat, Nat.mod_eq_of_lt (by omega), Fin.ext_iff]
  by_cases h : ∃ k, n = P k
  · obtain ⟨k, rfl⟩ := h
    rw [placed_hit P hP]
    have : ∀ m : ℕ, m ≤ 8 → k.val < m → ScatterToDense.GS word val fill (P k).val m = z k := by
      intro m hm hk
      induction m with
      | zero => omega
      | succ m ih =>
        by_cases e : k.val = m
        · subst e
          rw [ScatterToDense.GS_succ_hit ((hword k).2 rfl), hv]
        · rw [ScatterToDense.GS_succ_miss fun hh => e (congrArg Fin.val (hP ((hword ⟨m, by omega⟩).1 hh)))]
          exact ih (by omega) (by omega)
    exact this 8 le_rfl k.isLt
  · rw [placed_miss P z n h]
    have : ∀ m : ℕ, m ≤ 8 → ScatterToDense.GS word val fill n.val m = fill := by
      intro m hm
      induction m with
      | zero => rfl
      | succ m ih =>
        rw [ScatterToDense.GS_succ_miss fun hh => h ⟨⟨m, by omega⟩, (hword ⟨m, by omega⟩).1 hh⟩]
        exact ih (by omega)
    exact this 8 le_rfl

section
variable (r : Fin 4 → Fin 25) (ht : ∀ b : Fin 4, V0 (Proc.devRef .tc main_arg2) (ix1 b) = BitVec.ofNat 32 (r b).val)
include ht

/-- The first result: the scores of the target phrase. -/
theorem ref_sim (b : Fin 4) (n : Fin 256) :
    Host.gather gather_S4x25x256_S4x2_S4x256_1_01_n_n_01_1_11256 (res_main_v18 V0) (starts V0) (ix2 b n) = score V0 b (r b) n := by
  rw [gather_scores _ _ b (r b) n (starts_batch V0 b) (starts_target V0 r ht b), ref_score]

/-- The third result: the box regression head at the top boxes of the target phrase. -/
theorem ref_reg (b : Fin 4) (k : Fin 8) (o : Fin 6) :
    Host.gather gather_S4x25x8x6_S4x2_S4x8x6_12_01_n_n_01_1_1186 (addf (Host.dotGeneral (φ₂ := .f32) dot_S4x25x8x256_S256x6_S4x25x8x6_3_0_012_1_n_n none (select (cmpf .ogt (res_main_v54 V0) (broadcastInDim S4x25x8x256 ![] bcast_S_S4x25x8x256 (constant S_ .f32 0x00000000#32))) (res_main_v54 V0) (mulf (broadcastInDim S4x25x8x256 ![] bcast_S_S4x25x8x256 (constant S_ .f32 0x3C23D70A#32)) (res_main_v54 V0))) (V0 (Proc.devRef .tc main_arg17))) (broadcastInDim S4x25x8x6 ![0, 1, 2, 3] bcast_S1x1x1x6_S4x25x8x6_0_1_2_3 (broadcastInDim S1x1x1x6 ![3] bcast_S6_S1x1x1x6_3 (V0 (Proc.devRef .tc main_arg18))))) (starts V0) (ix3 b k o)
      = Results.reg (V0 (Proc.devRef .tc main_arg0)) (V0 (Proc.devRef .tc main_arg1)) (V0 (Proc.devRef .tc main_arg3))
        (V0 (Proc.devRef .tc main_arg4)) (V0 (Proc.devRef .tc main_arg5)) (V0 (Proc.devRef .tc main_arg6))
        (V0 (Proc.devRef .tc main_arg15)) (V0 (Proc.devRef .tc main_arg16)) (V0 (Proc.devRef .tc main_arg17)) (V0 (Proc.devRef .tc main_arg18))
        b (r b) k o := by
  rw [gather_regs _ _ b (r b) k o (starts_batch V0 b) (starts_target V0 r ht b)]
  pointwise []
  simp only [ref_hidden_reg, Results.reg, head, leaky, lowSlope]

/-- The updates the reference scatters: the fused values at the top boxes of the target phrase. -/
theorem ref_fused (b : Fin 4) (k : Fin 8) :
    Host.gather gather_S4x25x8_S4x2_S4x8_1_01_n_n_01_1_118 (mulf (shapeCast _ (addf (Host.dotGeneral (φ₂ := .f32) dot_S4x25x8x256_S256x1_S4x25x8x1_3_0_012_1_n_n none (select (cmpf .ogt (res_main_v40 V0) (broadcastInDim S4x25x8x256 ![] bcast_S_S4x25x8x256 (constant S_ .f32 0x00000000#32))) (res_main_v40 V0) (mulf (broadcastInDim S4x25x8x256 ![] bcast_S_S4x25x8x256 (constant S_ .f32 0x3C23D70A#32)) (res_main_v40 V0))) (V0 (Proc.devRef .tc main_arg13))) (broadcastInDim S4x25x8x1 ![0, 1, 2, 3] bcast_S1x1x1x1_S4x25x8x1_0_1_2_3 (broadcastInDim S1x1x1x1 ![3] bcast_S1_S1x1x1x1_3 (V0 (Proc.devRef .tc main_arg14))))) shapeCasts_S4x25x8x1_S4x25x8) ((Host.topK S4x25x8 2 (FloatOps.cmpfTotal .gt) (res_main_v18 V0) sliceFits_S4x25x256_S4x25x8).1)) (starts V0) (ix2 b k)
      = Results.fused (V0 (Proc.devRef .tc main_arg0)) (V0 (Proc.devRef .tc main_arg1)) (V0 (Proc.devRef .tc main_arg3))
        (V0 (Proc.devRef .tc main_arg4)) (V0 (Proc.devRef .tc main_arg5)) (V0 (Proc.devRef .tc main_arg6))
        (V0 (Proc.devRef .tc main_arg11)) (V0 (Proc.devRef .tc main_arg12)) (V0 (Proc.devRef .tc main_arg13)) (V0 (Proc.devRef .tc main_arg14))
        b (r b) k := by
  rw [gather_places _ _ b (r b) k (starts_batch V0 b) (starts_target V0 r ht b)]
  pointwise []
  simp only [ref_hidden_sim, ref_top_score, Results.fused, head, leaky, lowSlope]

/-- The box indices the reference scatters at. -/
theorem ref_place (b : Fin 4) (k : Fin 8) : res_main_v93 V0 (ix2 b k) = BitVec.ofNat 32 (top V0 b (r b) k).val := by
  unfold res_main_v93
  rw [gather_places _ _ b (r b) k (starts_batch V0 b) (starts_target V0 r ht b), ref_index]

/-- The second result: the fused values at the boxes of the top places, and the fill elsewhere. -/
theorem ref_det (upd : FVec Ideal S4x8 .f32) (z : Fin 4 → Fin 8 → EReal) (hz : ∀ b k, upd (ix2 b k) = z b k) (b : Fin 4) (n : Fin 256) :
    Host.scatter scatter_S4x256_S4x8x2_S4x8_n_01_01_2 (fun _ b => b) (broadcastInDim S4x256 ![] bcast_S_S4x256 (constant S_ .f32 0xCE6E6B28#32)) (concatenate S4x8x2 2 [⟨S4x8x1, (broadcastInDim S4x8x1 ![0, 1] bcast_S4x8_S4x8x1_0_1 (broadcastInDim S4x8 ![0, 1] bcast_S4x1_S4x8_0_1 (select (cmpi .slt (res_main_v95 V0) (broadcastInDim S4x1 ![] bcast_S_S4x1 (constantI S_ 32 0#32))) (addi (res_main_v95 V0) (broadcastInDim S4x1 ![] bcast_S_S4x1 (constantI S_ 32 4#32))) (res_main_v95 V0))))⟩, ⟨S4x8x1, (broadcastInDim S4x8x1 ![0, 1] bcast_S4x8_S4x8x1_0_1 (select (cmpi .slt (res_main_v93 V0) (broadcastInDim S4x8 ![] bcast_S_S4x8 (constantI S_ 32 0#32))) (addi (res_main_v93 V0) (broadcastInDim S4x8 ![] bcast_S_S4x8 (constantI S_ 32 256#32))) (res_main_v93 V0)))⟩] concatenates_S4x8x1_S4x8x1_S4x8x2_d2) upd (ix2 b n)
      = placed (top V0 b (r b)) (z b) n := by
  refine (ScatterToDense.scatter_eq_GS (T := 4) (C := 256) (K := 8) _ rfl rfl rfl (by norm_num) (by norm_num) _ _ upd
    (fun b k => BitVec.ofNat 32 (if h : k < 8 then (top V0 b (r b) ⟨k, h⟩).val else 0))
    (fun b k => if h : k < 8 then z b ⟨k, h⟩ else 0) ?_ ?_ ?_ b n).trans ?_
  · intro b k
    pointwise [res_main_v95, res_main_v65]
    exact wrap_small _ (by omega) _
  · intro b k
    pointwise []
    rw [ref_place V0 r ht, wrap_small _ (by omega) _]
  · intro b k
    rw [dif_pos k.isLt]
    exact hz b k
  · have e : (broadcastInDim S4x256 ![] bcast_S_S4x256 (constant S_ .f32 0xCE6E6B28#32) : FVec Ideal S4x256 .f32) (ix2 b n) = fill := by
      pointwise []
      rfl
    refine (congrArg (fun f => ScatterToDense.GS _ _ f n.val 8) e).trans ?_
    exact last_hit (top V0 b (r b)) (Results.top_injective _ _ _ _ _ _ b (r b)) (z b) _ _
      (fun k => by rw [dif_pos k.isLt]) (fun k => by rw [dif_pos k.isLt]) n

end
end Cert.RefValue
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Target
public import proofs.«01_k».proof.Proof.KernelReadDet
public import proofs.«01_k».proof.Proof.KernelReadReg
public import proofs.«01_k».proof.Proof.RefOut
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.ShloMosaic.Pointwise Idealize.SL.Sem Cert.Kernel

/-- The kernel runs to an end from every memory, leaves its arguments as they were and every counter at zero. -/
theorem frame_kernel : Cert.quiescent_Kernel (hKernel := Cert.Kernel.Gen.facts) :=
  fun m ρ _ => Cert.Kernel.Gen.frame m ρ

/-- The same of the kernel over the extended reals. -/
theorem frame_kernelIdeal : Cert.quiescent_KernelIdeal (hKernelIdeal := Cert.KernelIdeal.Gen.facts) :=
  fun m ρ _ => Cert.KernelIdeal.Gen.frame m ρ

/-- The same of the reference over the extended reals. -/
theorem frame_referenceIdeal : Cert.quiescent_ReferenceIdeal (hReferenceIdeal := Cert.ReferenceIdeal.Gen.facts) := by
  intro m ρ _
  exact (θ_run Cert.ReferenceIdeal.defs _ _).mono
    (fun r h => ⟨fun c => (h c).2.2.2, sem_eq_zero_of_no_sems (sig := Cert.ReferenceIdeal.sig) (by decide) r.2⟩)
    (Cert.ReferenceIdeal.Value.run m ρ)

/-- The precondition's one broadcast is in order. -/
theorem facts_target_in_range : Cert.Pre_target_in_range.Facts := ⟨by decide⟩

/-- The kernel over the extended reals is the kernel itself: no operation was replaced. -/
theorem preserves : Cert.preserves_Kernel_KernelIdeal := trivial

/-- Under the precondition every batch names one of the 25 phrases. -/
theorem targets (m : (ℓ : Loc Cert.KernelIdeal.nD Cert.KernelIdeal.τ Cert.KernelIdeal.sig) → Buf (Elt Ideal) ℓ)
    (h : Cert.Pre_KernelIdeal_target_in_range (hPre_target_in_range := facts_target_in_range) m) (c : Dev Cert.KernelIdeal.nD) :
    ∃ r : Fin 4 → Fin 25, ∀ b : Fin 4,
      m ((c.tc : Thread Cert.KernelIdeal.nD Cert.KernelIdeal.τ).loc Cert.KernelIdeal.main_arg2) (ix1 b) = BitVec.ofNat 32 (r b).val := by
  have one : ∀ b : Fin 4, ∃ r : Fin 25,
      m ((c.tc : Thread Cert.KernelIdeal.nD Cert.KernelIdeal.τ).loc Cert.KernelIdeal.main_arg2) (ix1 b) = BitVec.ofNat 32 r.val := fun b =>
    Cert.Target.exists_of_bits _ _ _ (ix1 b) rfl rfl (congrFun (h c) (ix1 b))
  choose r hr using one
  exact ⟨r, hr⟩

/-- From memories with equal arguments and targets in range, the kernel and the reference over the extended
    reals end with the same three results, element by element: the scores of the target phrase, its detection
    row, and the box regressions at its eight best boxes. -/
theorem algebraic : Cert.algebraic_KernelIdeal_ReferenceIdeal_pre_target_in_range (hKernelIdeal := Cert.KernelIdeal.Gen.facts)
    (hReferenceIdeal := Cert.ReferenceIdeal.Gen.facts) (hPre_target_in_range := facts_target_in_range) := by
  intro m g m' g' hp hargs
  refine ⟨_, _, _, Cert.KernelIdeal.Value.run_blocks m g, (θ_run Cert.ReferenceIdeal.defs _ _).mono (fun q h c => ?_)
    (Cert.ReferenceIdeal.Value.run m' g')⟩
  obtain ⟨r, hr⟩ := targets m hp c
  obtain ⟨e0, e1, e2, e3, e4, e5, e6, -, -, -, -, e11, e12, e13, e14, e15, e16, e17, e18⟩ := hargs c
  have ht : ∀ b : Fin 4, Idealize.ShloMosaic.StableHlo.launchContents m' c (Proc.devRef .tc Cert.ReferenceIdeal.main_arg2) (ix1 b)
      = BitVec.ofNat 32 (r b).val := fun b => (congrFun e2 (ix1 b)).trans (hr b)
  refine ⟨(h c).1.trans (Cert.KernelValue.final13 m c r hr _ fun b n => ?_).symm,
    (h c).2.1.trans (Cert.KernelValue.final14 m c r hr _ fun b n => ?_).symm,
    (h c).2.2.1.trans (Cert.KernelValue.final15 m c r hr _ fun b k o => ?_).symm, (h c).2.2.2⟩
  · refine (Cert.RefValue.ref_sim _ r ht b n).trans ?_
    rw [← e0, ← e1, ← e3, ← e4, ← e5, ← e6]
  · refine (Cert.RefValue.ref_det _ r ht _ _ (fun b k => Cert.RefValue.ref_fused _ r ht b k) b n).trans ?_
    rw [← e0, ← e1, ← e3, ← e4, ← e5, ← e6, ← e11, ← e12, ← e13, ← e14]
    rfl
  · refine (Cert.RefValue.ref_reg _ r ht b k o).trans ?_
    rw [← e0, ← e1, ← e3, ← e4, ← e5, ← e6, ← e15, ← e16, ← e17, ← e18]

/-- All the claims together; the two frames stated under the precondition follow from those stated without it. -/
theorem claim : Cert.Claim :=
  ⟨Cert.Kernel.Gen.facts, Cert.KernelIdeal.Gen.facts, Cert.ReferenceIdeal.Gen.facts, facts_target_in_range,
    frame_kernel, frame_kernelIdeal, fun m ρ _ => Cert.KernelIdeal.Gen.frame m ρ, frame_referenceIdeal,
    fun m ρ _ => frame_referenceIdeal m ρ trivial, preserves, algebraic⟩

end Cert.Proof

end
